-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_5) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x4x8192x128 : Shape := ⟨4, ![2, 4, 8192, 128]⟩
abbrev S2x4x8192x256 : Shape := ⟨4, ![2, 4, 8192, 256]⟩
abbrev S2x4x128x128 : Shape := ⟨4, ![2, 4, 128, 128]⟩
abbrev S4x64x128 : Shape := ⟨3, ![4, 64, 128]⟩
abbrev S4x64x256 : Shape := ⟨3, ![4, 64, 256]⟩
abbrev S4x2x8192x128 : Shape := ⟨4, ![4, 2, 8192, 128]⟩
abbrev S4x16384x128 : Shape := ⟨3, ![4, 16384, 128]⟩
abbrev S8x16384x128 : Shape := ⟨3, ![8, 16384, 128]⟩
abbrev S4x2x8192x256 : Shape := ⟨4, ![4, 2, 8192, 256]⟩
abbrev S4x16384x256 : Shape := ⟨3, ![4, 16384, 256]⟩
abbrev S2x128x4x128 : Shape := ⟨4, ![2, 128, 4, 128]⟩
abbrev S256x512 : Shape := ⟨2, ![256, 512]⟩
abbrev S256x1024 : Shape := ⟨2, ![256, 1024]⟩
abbrev S16384x1024 : Shape := ⟨2, ![16384, 1024]⟩
abbrev S1x4096x128 : Shape := ⟨3, ![1, 4096, 128]⟩
abbrev S1x4096x256 : Shape := ⟨3, ![1, 4096, 256]⟩
abbrev S64x128 : Shape := ⟨2, ![64, 128]⟩
abbrev S1x64x128 : Shape := ⟨3, ![1, 64, 128]⟩
abbrev S1x64x256 : Shape := ⟨3, ![1, 64, 256]⟩
abbrev S4096x256 : Shape := ⟨2, ![4096, 256]⟩
abbrev S128x256 : Shape := ⟨2, ![128, 256]⟩
abbrev S64x256 : Shape := ⟨2, ![64, 256]⟩
abbrev S16x128 : Shape := ⟨2, ![16, 128]⟩
abbrev S128x128 : Shape := ⟨2, ![128, 128]⟩
abbrev S128x1 : Shape := ⟨2, ![128, 1]⟩
abbrev S1024x256 : Shape := ⟨2, ![1024, 256]⟩

abbrev nBuf : Space → Nat
  | .hbm => 33
  | .vmem => 26
  | .smem => 0
  | _ => 0

abbrev bufTy : (tb : Table) → Fin (tcTables nBuf tb) → BufTy
  | .hbm, ⟨0, _⟩ => ⟨S2x4x8192x128, .f32⟩
  | .hbm, ⟨1, _⟩ => ⟨S2x4x8192x128, .f32⟩
  | .hbm, ⟨2, _⟩ => ⟨S2x4x8192x128, .f32⟩
  | .hbm, ⟨3, _⟩ => ⟨S2x4x8192x128, .f32⟩
  | .hbm, ⟨4, _⟩ => ⟨S2x4x8192x256, .f32⟩
  | .hbm, ⟨5, _⟩ => ⟨S2x4x128x128, .f32⟩
  | .hbm, ⟨6, _⟩ => ⟨S2x4x128x128, .f32⟩
  | .hbm, ⟨7, _⟩ => ⟨S4x64x128, .f32⟩
  | .hbm, ⟨8, _⟩ => ⟨S4x64x256, .f32⟩
  | .hbm, ⟨9, _⟩ => ⟨S4x2x8192x128, .f32⟩
  | .hbm, ⟨10, _⟩ => ⟨S4x16384x128, .f32⟩
  | .hbm, ⟨11, _⟩ => ⟨S4x2x8192x128, .f32⟩
  | .hbm, ⟨12, _⟩ => ⟨S4x16384x128, .f32⟩
  | .hbm, ⟨13, _⟩ => ⟨S8x16384x128, .f32⟩
  | .hbm, ⟨14, _⟩ => ⟨S8x16384x128, .bf16⟩
  | .hbm, ⟨15, _⟩ => ⟨S4x2x8192x128, .f32⟩
  | .hbm, ⟨16, _⟩ => ⟨S4x16384x128, .f32⟩
  | .hbm, ⟨17, _⟩ => ⟨S4x2x8192x128, .f32⟩
  | .hbm, ⟨18, _⟩ => ⟨S4x16384x128, .f32⟩
  | .hbm, ⟨19, _⟩ => ⟨S8x16384x128, .f32⟩
  | .hbm, ⟨20, _⟩ => ⟨S8x16384x128, .bf16⟩
  | .hbm, ⟨21, _⟩ => ⟨S4x2x8192x256, .f32⟩
  | .hbm, ⟨22, _⟩ => ⟨S4x16384x256, .f32⟩
  | .hbm, ⟨23, _⟩ => ⟨S4x16384x256, .bf16⟩
  | .hbm, ⟨24, _⟩ => ⟨S2x128x4x128, .f32⟩
  | .hbm, ⟨25, _⟩ => ⟨S256x512, .f32⟩
  | .hbm, ⟨26, _⟩ => ⟨S2x128x4x128, .f32⟩
  | .hbm, ⟨27, _⟩ => ⟨S256x512, .f32⟩
  | .hbm, ⟨28, _⟩ => ⟨S256x1024, .f32⟩
  | .hbm, ⟨29, _⟩ => ⟨S4x64x128, .bf16⟩
  | .hbm, ⟨30, _⟩ => ⟨S4x64x256, .bf16⟩
  | .hbm, ⟨31, _⟩ => ⟨S16384x1024, .bf16⟩
  | .hbm, ⟨32, _⟩ => ⟨S16384x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S64x128, .f32⟩
  | .local _ .vmem, ⟨7, _⟩ => ⟨S64x128, .f32⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x256, .bf16⟩
  | .local _ .vmem, ⟨13, _⟩ => ⟨S1x4096x256, .bf16⟩
  | .local _ .vmem, ⟨14, _⟩ => ⟨S64x128, .f32⟩
  | .local _ .vmem, ⟨15, _⟩ => ⟨S64x128, .f32⟩
  | .local _ .vmem, ⟨16, _⟩ => ⟨S1x64x128, .bf16⟩
  | .local _ .vmem, ⟨17, _⟩ => ⟨S1x64x128, .bf16⟩
  | .local _ .vmem, ⟨18, _⟩ => ⟨S1x64x256, .bf16⟩
  | .local _ .vmem, ⟨19, _⟩ => ⟨S1x64x256, .bf16⟩
  | .local _ .vmem, ⟨20, _⟩ => ⟨S4096x256, .bf16⟩
  | .local _ .vmem, ⟨21, _⟩ => ⟨S4096x256, .bf16⟩
  | .local _ .vmem, ⟨22, _⟩ => ⟨S4096x256, .bf16⟩
  | .local _ .vmem, ⟨23, _⟩ => ⟨S4096x256, .bf16⟩
  | .local _ .vmem, ⟨24, _⟩ => ⟨S128x256, .f32⟩
  | .local _ .vmem, ⟨25, _⟩ => ⟨S128x256, .f32⟩
  | _, _ => ⟨S2x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let v1 : BitVec 32 := Scalar.muli arg0 c2_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let v1 : BitVec 32 := Scalar.muli arg0 c2_i32
  let v2 : BitVec 32 := Scalar.addi v1 arg2
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let v1 : BitVec 32 := Scalar.muli arg0 c2_i32
  let v2 : BitVec 32 := Scalar.addi v1 arg2
  let c0_i32_0 : BitVec 32 := 0#32
  let c0_i32_1 : BitVec 32 := 0#32
  ![v0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c2_i32 : BitVec 32 := 2#32
  let v1 : BitVec 32 := Scalar.muli arg0 c2_i32
  let c2_i32_0 : BitVec 32 := 2#32
  let v2 : BitVec 32 := Scalar.addi v1 c2_i32_0
  let c1_i32 : BitVec 32 := 1#32
  let v3 : BitVec 32 := Scalar.subi v2 c1_i32
  let v4 : BitVec 32 := Scalar.subi v3 arg2
  let c0_i32 : BitVec 32 := 0#32
  let c0_i32_1 : BitVec 32 := 0#32
  ![v0.toNat, v4.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c2_i32 : BitVec 32 := 2#32
  let v1 : BitVec 32 := Scalar.muli arg0 c2_i32
  let c2_i32_0 : BitVec 32 := 2#32
  let v2 : BitVec 32 := Scalar.addi v1 c2_i32_0
  let c1_i32 : BitVec 32 := 1#32
  let v3 : BitVec 32 := Scalar.subi v2 c1_i32
  let v4 : BitVec 32 := Scalar.subi v3 arg2
  let c0_i32 : BitVec 32 := 0#32
  let c0_i32_1 : BitVec 32 := 0#32
  ![v0.toNat, v4.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let v1 : BitVec 32 := Scalar.muli arg0 c2_i32
  let c2_i32_0 : BitVec 32 := 2#32
  let v2 : BitVec 32 := Scalar.addi v1 c2_i32_0
  let c1_i32 : BitVec 32 := 1#32
  let v3 : BitVec 32 := Scalar.subi v2 c1_i32
  let v4 : BitVec 32 := Scalar.subi v3 arg2
  let c0_i32_1 : BitVec 32 := 0#32
  let c0_i32_2 : BitVec 32 := 0#32
  ![v0.toNat, v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg2
  let c4_i32 : BitVec 32 := 4#32
  let v4 : BitVec 32 := Scalar.addi c4_i32 arg1
  let c0_i32 : BitVec 32 := 0#32
  ![v3.toNat, v4.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S2x4x8192x128 : Shape := ⟨4, ![2, 4, 8192, 128]⟩
abbrev S2x4x8192x256 : Shape := ⟨4, ![2, 4, 8192, 256]⟩
abbrev S2x4x128x128 : Shape := ⟨4, ![2, 4, 128, 128]⟩
abbrev S4x64x128 : Shape := ⟨3, ![4, 64, 128]⟩
abbrev S4x64x256 : Shape := ⟨3, ![4, 64, 256]⟩
abbrev S4x128x256 : Shape := ⟨3, ![4, 128, 256]⟩
abbrev S1x4x128x256 : Shape := ⟨4, ![1, 4, 128, 256]⟩
abbrev S2x4x128x256 : Shape := ⟨4, ![2, 4, 128, 256]⟩
abbrev S_ : Shape := ⟨0, ![]⟩
abbrev S2x4x128x64x128 : Shape := ⟨5, ![2, 4, 128, 64, 128]⟩
abbrev S2x4x128x64x256 : Shape := ⟨5, ![2, 4, 128, 64, 256]⟩
abbrev S2x4x128x128x256 : Shape := ⟨5, ![2, 4, 128, 128, 256]⟩
abbrev S128x2x4x128x256 : Shape := ⟨5, ![128, 2, 4, 128, 256]⟩
abbrev S128x2x4x128 : Shape := ⟨4, ![128, 2, 4, 128]⟩
abbrev S1x2x4x128x256 : Shape := ⟨5, ![1, 2, 4, 128, 256]⟩
abbrev S1x2x4x128 : Shape := ⟨4, ![1, 2, 4, 128]⟩
abbrev S2x4x128 : Shape := ⟨3, ![2, 4, 128]⟩
abbrev S2x4x128x1 : Shape := ⟨4, ![2, 4, 128, 1]⟩
abbrev S2x8192x4x256 : Shape := ⟨4, ![2, 8192, 4, 256]⟩
abbrev S16384x1024 : Shape := ⟨2, ![16384, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x4x8192x128, .f32⟩
  | .hbm, ⟨1, _⟩ => ⟨S2x4x8192x128, .f32⟩
  | .hbm, ⟨2, _⟩ => ⟨S2x4x8192x128, .f32⟩
  | .hbm, ⟨3, _⟩ => ⟨S2x4x8192x128, .f32⟩
  | .hbm, ⟨4, _⟩ => ⟨S2x4x8192x256, .f32⟩
  | .hbm, ⟨5, _⟩ => ⟨S2x4x128x128, .f32⟩
  | .hbm, ⟨6, _⟩ => ⟨S2x4x128x128, .f32⟩
  | .hbm, ⟨7, _⟩ => ⟨S4x64x128, .f32⟩
  | .hbm, ⟨8, _⟩ => ⟨S4x64x256, .f32⟩
  | .hbm, ⟨9, _⟩ => ⟨S4x128x256, .f32⟩
  | .hbm, ⟨10, _⟩ => ⟨S1x4x128x256, .f32⟩
  | .hbm, ⟨11, _⟩ => ⟨S2x4x128x256, .f32⟩
  | .hbm, ⟨12, _⟩ => ⟨S_, .f32⟩
  | .hbm, ⟨13, _⟩ => ⟨S2x4x128x256, .f32⟩
  | .hbm, ⟨14, _⟩ => ⟨S2x4x128x64x128, .f32⟩
  | .hbm, ⟨15, _⟩ => ⟨S2x4x128x64x256, .f32⟩
  | .hbm, ⟨16, _⟩ => ⟨S2x4x128x128x256, .f32⟩
  | .hbm, ⟨17, _⟩ => ⟨S128x2x4x128x256, .f32⟩
  | .hbm, ⟨18, _⟩ => ⟨S_, .f32⟩
  | .hbm, ⟨19, _⟩ => ⟨S2x4x128x128, .f32⟩
  | .hbm, ⟨20, _⟩ => ⟨S2x4x128x128, .f32⟩
  | .hbm, ⟨21, _⟩ => ⟨S128x2x4x128, .f32⟩
  | .hbm, ⟨22, _⟩ => ⟨S2x4x8192x128, .f32⟩
  | .hbm, ⟨23, _⟩ => ⟨S2x4x8192x256, .f32⟩
  | .hbm, ⟨24, _⟩ => ⟨S2x4x128x64x128, .f32⟩
  | .hbm, ⟨25, _⟩ => ⟨S2x4x128x64x256, .f32⟩
  | .hbm, ⟨26, _⟩ => ⟨S2x4x128x128x256, .f32⟩
  | .hbm, ⟨27, _⟩ => ⟨S128x2x4x128x256, .f32⟩
  | .hbm, ⟨28, _⟩ => ⟨S2x4x128x128, .f32⟩
  | .hbm, ⟨29, _⟩ => ⟨S_, .f32⟩
  | .hbm, ⟨30, _⟩ => ⟨S2x4x128x128, .f32⟩
  | .hbm, ⟨31, _⟩ => ⟨S2x4x128x128, .f32⟩
  | .hbm, ⟨32, _⟩ => ⟨S128x2x4x128, .f32⟩
  | .hbm, ⟨33, _⟩ => ⟨S_, .f32⟩
  | .hbm, ⟨34, _⟩ => ⟨S128x2x4x128x256, .f32⟩
  | .hbm, ⟨35, _⟩ => ⟨S_, .f32⟩
  | .hbm, ⟨36, _⟩ => ⟨S128x2x4x128x256, .f32⟩
  | .hbm, ⟨37, _⟩ => ⟨S_, .i32⟩
  | .hbm, ⟨38, _⟩ => ⟨S128x2x4x128x256, .f32⟩
  | .hbm, ⟨39, _⟩ => ⟨S128x2x4x128, .f32⟩
  | .hbm, ⟨40, _⟩ => ⟨S128x2x4x128x256, .f32⟩
  | .hbm, ⟨41, _⟩ => ⟨S128x2x4x128, .f32⟩
  | .hbm, ⟨42, _⟩ => ⟨S_, .i32⟩
  | .hbm, ⟨43, _⟩ => ⟨S2x4x128x256, .f32⟩
  | .hbm, ⟨44, _⟩ => ⟨S2x4x128x256, .f32⟩
  | .hbm, ⟨45, _⟩ => ⟨S128x2x4x128x256, .f32⟩
  | .hbm, ⟨46, _⟩ => ⟨S128x2x4x128x256, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x4x128x256, .f32⟩
  | .hbm, ⟨54, _⟩ => ⟨S2x4x128x256, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x2x4x128, .f32⟩
  | .hbm, ⟨59, _⟩ => ⟨S2x4x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x2x4x128x256, .f32⟩
  | .hbm, ⟨65, _⟩ => ⟨S2x4x128x256, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x2x4x128, .f32⟩
  | .hbm, ⟨70, _⟩ => ⟨S2x4x128, .f32⟩
  | .hbm, ⟨71, _⟩ => ⟨S2x4x128x1, .f32⟩
  | .hbm, ⟨72, _⟩ => ⟨S2x4x128x256, .f32⟩
  | .hbm, ⟨73, _⟩ => ⟨S2x4x128x256, .f32⟩
  | .hbm, ⟨74, _⟩ => ⟨S2x4x128x256, .f32⟩
  | .hbm, ⟨75, _⟩ => ⟨S2x4x128x1, .f32⟩
  | .hbm, ⟨76, _⟩ => ⟨S2x4x128x256, .f32⟩
  | .hbm, ⟨77, _⟩ => ⟨S2x4x128x256, .f32⟩
  | .hbm, ⟨78, _⟩ => ⟨S2x4x128x256, .f32⟩
  | .hbm, ⟨79, _⟩ => ⟨S1x2x4x128x256, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S128x2x4x128x256, .f32⟩
  | .hbm, ⟨85, _⟩ => ⟨S1x2x4x128x256, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S128x2x4x128x256, .f32⟩
  | .hbm, ⟨91, _⟩ => ⟨S_, .i32⟩
  | .hbm, ⟨92, _⟩ => ⟨S_, .i32⟩
  | .hbm, ⟨93, _⟩ => ⟨S2x4x128x64x128, .f32⟩
  | .hbm, ⟨94, _⟩ => ⟨S2x4x128x128x256, .f32⟩
  | .hbm, ⟨95, _⟩ => ⟨S2x4x128x64x256, .f32⟩
  | .hbm, ⟨96, _⟩ => ⟨S2x4x8192x256, .f32⟩
  | .hbm, ⟨97, _⟩ => ⟨S2x4x8192x128, .f32⟩
  | .hbm, ⟨98, _⟩ => ⟨S2x4x128x64x128, .f32⟩
  | .hbm, ⟨99, _⟩ => ⟨S2x4x128x128x256, .f32⟩
  | .hbm, ⟨100, _⟩ => ⟨S2x4x128x64x256, .f32⟩
  | .hbm, ⟨101, _⟩ => ⟨S2x4x8192x256, .f32⟩
  | .hbm, ⟨102, _⟩ => ⟨S2x4x8192x256, .f32⟩
  | .hbm, ⟨103, _⟩ => ⟨S2x8192x4x256, .f32⟩
  | .hbm, ⟨104, _⟩ => ⟨S16384x1024, .f32⟩
  | .hbm, ⟨105, _⟩ => ⟨S16384x1024, .bf16⟩
  | .hbm, ⟨106, _⟩ => ⟨S2x8192x4x256, .f32⟩
  | .hbm, ⟨107, _⟩ => ⟨S16384x1024, .f32⟩
  | .hbm, ⟨108, _⟩ => ⟨S16384x1024, .bf16⟩
  | _, _ => ⟨S2x4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_c : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev main_v23_5 : Ref sig .tc := ⟨.hbm, 43, rfl⟩
abbrev main_v23_6 : Ref sig .tc := ⟨.hbm, 44, rfl⟩
abbrev main_v23_7 : Ref sig .tc := ⟨.hbm, 45, rfl⟩
abbrev main_v23_8 : Ref sig .tc := ⟨.hbm, 46, rfl⟩
abbrev main_while0c_c_12 : Ref sig .tc := ⟨.hbm, 47, rfl⟩
abbrev main_while0c_v40 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_c_2 : Ref sig .tc := ⟨.hbm, 52, rfl⟩
abbrev main_while0b_call3_v0 : Ref sig .tc := ⟨.hbm, 53, rfl⟩
abbrev main_while0b_v40 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_v0 : Ref sig .tc := ⟨.hbm, 58, rfl⟩
abbrev main_while0b_v41 : Ref sig .tc := ⟨.hbm, 59, rfl⟩
abbrev main_while0b_call5_c : Ref sig .tc := ⟨.hbm, 60, rfl⟩
abbrev main_while0b_call5_c_0 : Ref sig .tc := ⟨.hbm, 61, rfl⟩
abbrev main_while0b_call5_c_1 : Ref sig .tc := ⟨.hbm, 62, rfl⟩
abbrev main_while0b_call5_c_2 : Ref sig .tc := ⟨.hbm, 63, rfl⟩
abbrev main_while0b_call5_v0 : Ref sig .tc := ⟨.hbm, 64, rfl⟩
abbrev main_while0b_v42 : Ref sig .tc := ⟨.hbm, 65, rfl⟩
abbrev main_while0b_call6_c : Ref sig .tc := ⟨.hbm, 66, rfl⟩
abbrev main_while0b_call6_c_0 : Ref sig .tc := ⟨.hbm, 67, rfl⟩
abbrev main_while0b_call6_c_1 : Ref sig .tc := ⟨.hbm, 68, rfl⟩
abbrev main_while0b_call6_v0 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_call7_v0 : Ref sig .tc := ⟨.hbm, 79, rfl⟩
abbrev main_while0b_call7_c : Ref sig .tc := ⟨.hbm, 80, rfl⟩
abbrev main_while0b_call7_c_0 : Ref sig .tc := ⟨.hbm, 81, rfl⟩
abbrev main_while0b_call7_c_1 : Ref sig .tc := ⟨.hbm, 82, rfl⟩
abbrev main_while0b_call7_c_2 : Ref sig .tc := ⟨.hbm, 83, rfl⟩
abbrev main_while0b_v52 : Ref sig .tc := ⟨.hbm, 84, rfl⟩
abbrev main_while0b_call8_v0 : Ref sig .tc := ⟨.hbm, 85, rfl⟩
abbrev main_while0b_call8_c : Ref sig .tc := ⟨.hbm, 86, rfl⟩
abbrev main_while0b_call8_c_0 : Ref sig .tc := ⟨.hbm, 87, rfl⟩
abbrev main_while0b_call8_c_1 : Ref sig .tc := ⟨.hbm, 88, rfl⟩
abbrev main_while0b_call8_c_2 : Ref sig .tc := ⟨.hbm, 89, rfl⟩
abbrev main_while0b_v53 : Ref sig .tc := ⟨.hbm, 90, rfl⟩
abbrev main_while0b_c_12 : Ref sig .tc := ⟨.hbm, 91, rfl⟩
abbrev main_while0b_v54 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S2x8192x512 : Shape := ⟨3, ![2, 8192, 512]⟩
abbrev S1x1024 : Shape := ⟨2, ![1, 1024]⟩
abbrev S1x1024x5664 : Shape := ⟨3, ![1, 1024, 5664]⟩
abbrev S1x256 : Shape := ⟨2, ![1, 256]⟩
abbrev S1x1024x1024 : Shape := ⟨3, ![1, 1024, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S1x1024x2048 : Shape := ⟨3, ![1, 1024, 2048]⟩
abbrev S1024x2048 : Shape := ⟨2, ![1024, 2048]⟩
abbrev S8192x2x512 : Shape := ⟨3, ![8192, 2, 512]⟩
abbrev S8192x1024 : Shape := ⟨2, ![8192, 1024]⟩
abbrev S1024x1024 : Shape := ⟨2, ![1024, 1024]⟩
abbrev S512x1024 : Shape := ⟨2, ![512, 1024]⟩
abbrev S4096x1024 : Shape := ⟨2, ![4096, 1024]⟩
abbrev S16384x1024 : Shape := ⟨2, ![16384, 1024]⟩
abbrev S256 : Shape := ⟨1, ![256]⟩
abbrev S512x512 : Shape := ⟨2, ![512, 512]⟩
abbrev S256x1024 : Shape := ⟨2, ![256, 1024]⟩
abbrev S256x1 : Shape := ⟨2, ![256, 1]⟩
abbrev S1024x256 : Shape := ⟨2, ![1024, 256]⟩
abbrev S256x256 : Shape := ⟨2, ![256, 256]⟩
abbrev S256x512 : Shape := ⟨2, ![256, 512]⟩

abbrev nBuf : Space → Nat
  | .hbm => 49
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x512, .f32⟩
  | .hbm, ⟨5, _⟩ => ⟨S1x1024, .f32⟩
  | .hbm, ⟨6, _⟩ => ⟨S1x1024x5664, .f32⟩
  | .hbm, ⟨7, _⟩ => ⟨S1x256, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S1024, .f32⟩
  | .hbm, ⟨15, _⟩ => ⟨S1x1024x4096, .f32⟩
  | .hbm, ⟨16, _⟩ => ⟨S1024x4096, .f32⟩
  | .hbm, ⟨17, _⟩ => ⟨S1024x4096, .bf16⟩
  | .hbm, ⟨18, _⟩ => ⟨S1x1024x2048, .f32⟩
  | .hbm, ⟨19, _⟩ => ⟨S1024x2048, .f32⟩
  | .hbm, ⟨20, _⟩ => ⟨S1024x2048, .bf16⟩
  | .hbm, ⟨21, _⟩ => ⟨S8192x2x512, .f32⟩
  | .hbm, ⟨22, _⟩ => ⟨S8192x1024, .f32⟩
  | .hbm, ⟨23, _⟩ => ⟨S8192x1024, .bf16⟩
  | .hbm, ⟨24, _⟩ => ⟨S1024x1024, .f32⟩
  | .hbm, ⟨25, _⟩ => ⟨S1024x1024, .bf16⟩
  | .hbm, ⟨26, _⟩ => ⟨S512x1024, .f32⟩
  | .hbm, ⟨27, _⟩ => ⟨S512x1024, .bf16⟩
  | .hbm, ⟨28, _⟩ => ⟨S1024x1024, .f32⟩
  | .hbm, ⟨29, _⟩ => ⟨S1024x1024, .bf16⟩
  | .hbm, ⟨30, _⟩ => ⟨S1024x4096, .f32⟩
  | .hbm, ⟨31, _⟩ => ⟨S1024x4096, .bf16⟩
  | .hbm, ⟨32, _⟩ => ⟨S4096x1024, .f32⟩
  | .hbm, ⟨33, _⟩ => ⟨S4096x1024, .bf16⟩
  | .hbm, ⟨34, _⟩ => ⟨S16384x1024, .f32⟩
  | .hbm, ⟨35, _⟩ => ⟨S16384x1024, .f32⟩
  | .hbm, ⟨36, _⟩ => ⟨S16384x1024, .bf16⟩
  | .hbm, ⟨37, _⟩ => ⟨S16384x1024, .f32⟩
  | .hbm, ⟨38, _⟩ => ⟨S16384x1024, .bf16⟩
  | .hbm, ⟨39, _⟩ => ⟨S16384x1024, .f32⟩
  | .hbm, ⟨40, _⟩ => ⟨S16384x1024, .bf16⟩
  | .hbm, ⟨41, _⟩ => ⟨S1024, .f32⟩
  | .hbm, ⟨42, _⟩ => ⟨S1x1024, .f32⟩
  | .hbm, ⟨43, _⟩ => ⟨S256, .f32⟩
  | .hbm, ⟨44, _⟩ => ⟨S1x256, .f32⟩
  | .hbm, ⟨45, _⟩ => ⟨S1024, .f32⟩
  | .hbm, ⟨46, _⟩ => ⟨S1x1024, .f32⟩
  | .hbm, ⟨47, _⟩ => ⟨S1x1024, .f32⟩
  | .hbm, ⟨48, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | .local _ .vmem, ⟨11, _⟩ => ⟨S1x256, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x2048, .bf16⟩
  | .local _ .vmem, ⟨16, _⟩ => ⟨S1024x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S512x1024, .f32⟩
  | .local _ .vmem, ⟨22, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x8192x1024 : Shape := ⟨3, ![2, 8192, 1024]⟩
abbrev S2x8192x512 : Shape := ⟨3, ![2, 8192, 512]⟩
abbrev S1x1024 : Shape := ⟨2, ![1, 1024]⟩
abbrev S1x1024x5664 : Shape := ⟨3, ![1, 1024, 5664]⟩
abbrev S1x256 : Shape := ⟨2, ![1, 256]⟩
abbrev S1x1024x1024 : Shape := ⟨3, ![1, 1024, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5664 : Shape := ⟨2, ![1024, 5664]⟩
abbrev S2x8192x5664 : Shape := ⟨3, ![2, 8192, 5664]⟩
abbrev S2x8192x4x256 : Shape := ⟨4, ![2, 8192, 4, 256]⟩
abbrev S256 : Shape := ⟨1, ![256]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S1024x1024 : Shape := ⟨2, ![1024, 1024]⟩
abbrev S512x1024 : Shape := ⟨2, ![512, 1024]⟩
abbrev S1024x4096 : Shape := ⟨2, ![1024, 4096]⟩
abbrev S2x8192x4096 : Shape := ⟨3, ![2, 8192, 4096]⟩
abbrev S4096x1024 : Shape := ⟨2, ![4096, 1024]⟩
abbrev S16384x1024 : Shape := ⟨2, ![16384, 1024]⟩

abbrev nBuf : Space → Nat
  | .hbm => 137
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S2x8192x512, .f32⟩
  | 5 => ⟨S1x1024, .f32⟩
  | 6 => ⟨S1x1024x5664, .f32⟩
  | 7 => ⟨S1x256, .f32⟩
  | 8 => ⟨S1x1024x1024, .f32⟩
  | 9 => ⟨S1x512x1024, .f32⟩
  | 10 => ⟨S1x1024x1024, .f32⟩
  | 11 => ⟨S1x1024, .f32⟩
  | 12 => ⟨S1x1024x4096, .f32⟩
  | 13 => ⟨S1x4096x1024, .f32⟩
  | 14 => ⟨S1024, .f32⟩
  | 15 => ⟨S1024, .f32⟩
  | 16 => ⟨S2x8192x1024, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x1024, .f32⟩
  | 28 => ⟨S2x8192x1024, .f32⟩
  | 29 => ⟨S1x1x1024, .f32⟩
  | 30 => ⟨S2x8192x1024, .f32⟩
  | 31 => ⟨S2x8192x1024, .f32⟩
  | 32 => ⟨S1024x5664, .f32⟩
  | 33 => ⟨S2x8192x5664, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S2x8192x4x256, .f32⟩
  | 40 => ⟨S256, .f32⟩
  | 41 => ⟨S2x8192x4x256, .f32⟩
  | 42 => ⟨S_, .f32⟩
  | 43 => ⟨S2x8192x4, .f32⟩
  | 44 => ⟨S2x8192x4x1, .f32⟩
  | 45 => ⟨S_, .f32⟩
  | 46 => ⟨S2x8192x4x1, .f32⟩
  | 47 => ⟨S2x8192x4x1, .f32⟩
  | 48 => ⟨S_, .f32⟩
  | 49 => ⟨S2x8192x4x1, .f32⟩
  | 50 => ⟨S2x8192x4x1, .f32⟩
  | 51 => ⟨S2x8192x4x1, .f32⟩
  | 52 => ⟨S2x8192x4x256, .f32⟩
  | 53 => ⟨S2x8192x4x256, .f32⟩
  | 54 => ⟨S1x1x1x256, .f32⟩
  | 55 => ⟨S2x8192x4x256, .f32⟩
  | 56 => ⟨S2x8192x4x256, .f32⟩
  | 57 => ⟨S2x8192x1024, .f32⟩
  | 58 => ⟨S2x8192x1024, .f32⟩
  | 59 => ⟨S2x8192x1024, .f32⟩
  | 60 => ⟨S_, .f32⟩
  | 61 => ⟨S2x8192x1024, .f32⟩
  | 62 => ⟨S2x8192x1024, .f32⟩
  | 63 => ⟨S_, .f32⟩
  | 64 => ⟨S2x8192x1024, .f32⟩
  | 65 => ⟨S2x8192x1024, .f32⟩
  | 66 => ⟨S2x8192x1024, .f32⟩
  | 67 => ⟨S2x8192x1024, .f32⟩
  | 68 => ⟨S1024x1024, .f32⟩
  | 69 => ⟨S2x8192x1024, .f32⟩
  | 70 => ⟨S512x1024, .f32⟩
  | 71 => ⟨S2x8192x1024, .f32⟩
  | 72 => ⟨S2x8192x1024, .f32⟩
  | 73 => ⟨S2x8192x1024, .f32⟩
  | 74 => ⟨S_, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S_, .f32⟩
  | 84 => ⟨S2x8192x1024, .f32⟩
  | 85 => ⟨S2x8192x1024, .f32⟩
  | 86 => ⟨S_, .f32⟩
  | 87 => ⟨S2x8192x1024, .f32⟩
  | 88 => ⟨S2x8192x1024, .f32⟩
  | 89 => ⟨S2x8192x1024, .f32⟩
  | 90 => ⟨S2x8192x1024, .f32⟩
  | 91 => ⟨S1024x1024, .f32⟩
  | 92 => ⟨S2x8192x1024, .f32⟩
  | 93 => ⟨S2x8192x1024, .f32⟩
  | 94 => ⟨S1024, .f32⟩
  | 95 => ⟨S2x8192x1024, .f32⟩
  | 96 => ⟨S_, .f32⟩
  | 97 => ⟨S2x8192, .f32⟩
  | 98 => ⟨S2x8192x1, .f32⟩
  | 99 => ⟨S_, .f32⟩
  | 100 => ⟨S2x8192x1, .f32⟩
  | 101 => ⟨S2x8192x1, .f32⟩
  | 102 => ⟨S_, .f32⟩
  | 103 => ⟨S2x8192x1, .f32⟩
  | 104 => ⟨S2x8192x1, .f32⟩
  | 105 => ⟨S2x8192x1, .f32⟩
  | 106 => ⟨S2x8192x1024, .f32⟩
  | 107 => ⟨S2x8192x1024, .f32⟩
  | 108 => ⟨S1x1x1024, .f32⟩
  | 109 => ⟨S2x8192x1024, .f32⟩
  | 110 => ⟨S2x8192x1024, .f32⟩
  | 111 => ⟨S1024x4096, .f32⟩
  | 112 => ⟨S2x8192x4096, .f32⟩
  | 113 => ⟨S_, .f32⟩
  | 114 => ⟨S2x8192x4096, .f32⟩
  | 115 => ⟨S2x8192x4096, .f32⟩
  | 116 => ⟨S2x8192x4096, .f32⟩
  | 117 => ⟨S4096x1024, .f32⟩
  | 118 => ⟨S2x8192x1024, .f32⟩
  | 119 => ⟨S2x8192x1024, .f32⟩
  | 120 => ⟨S2x8192x1024, .f32⟩
  | 121 => ⟨S_, .f32⟩
  | 122 => ⟨S2x8192, .f32⟩
  | 123 => ⟨S2x8192x1, .f32⟩
  | 124 => ⟨S_, .f32⟩
  | 125 => ⟨S2x8192x1, .f32⟩
  | 126 => ⟨S2x8192x1, .f32⟩
  | 127 => ⟨S_, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S2x8192x1, .f32⟩
  | 3 => ⟨S2x8192x1024, .f32⟩
  | 4 => ⟨S2x8192x1024, .f32⟩
  | 5 => ⟨S1x1x1024, .f32⟩
  | 6 => ⟨S2x8192x1024, .f32⟩
  | 7 => ⟨S2x8192x1024, .f32⟩
  | 8 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_v64 : Ref sig .tc := ⟨.hbm, 98, rfl⟩
abbrev main_cst_10 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call1_cst : Ref sig .tc := ⟨.hbm, 113, rfl⟩
abbrev main_call1_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_12 : Ref sig .tc := ⟨.hbm, 121, rfl⟩
abbrev main_v83 : Ref sig .tc := ⟨.hbm, 122, rfl⟩
abbrev main_v84 : Ref sig .tc := ⟨.hbm, 123, rfl⟩
abbrev main_cst_13 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x5664 : Shape := ⟨3, ![1, 1024, 5664]⟩
abbrev S1x16x512 : Shape := ⟨3, ![1, 16, 512]⟩
abbrev S1x512 : Shape := ⟨2, ![1, 512]⟩
abbrev S128x128 : Shape := ⟨2, ![128, 128]⟩
abbrev S1x1024x4096 : Shape := ⟨3, ![1, 1024, 4096]⟩
abbrev S1024x4096 : Shape := ⟨2, ![1024, 4096]⟩
abbrev S128x256 : Shape := ⟨2, ![128, 256]⟩
abbrev S_ : Shape := ⟨0, ![]⟩
abbrev S256x256 : Shape := ⟨2, ![256, 256]⟩
abbrev S16384x1024 : Shape := ⟨2, ![16384, 1024]⟩
abbrev S1024 : Shape := ⟨1, ![1024]⟩
abbrev S16x512 : Shape := ⟨2, ![16, 512]⟩
abbrev S4x16384x256 : Shape := ⟨3, ![4, 16384, 256]⟩
abbrev S8x16384x128 : Shape := ⟨3, ![8, 16384, 128]⟩
abbrev S256x1024 : Shape := ⟨2, ![256, 1024]⟩
abbrev S2x2x8192x512 : Shape := ⟨4, ![2, 2, 8192, 512]⟩
abbrev S1024x1024 : Shape := ⟨2, ![1024, 1024]⟩
abbrev S1024x2048 : Shape := ⟨2, ![1024, 2048]⟩
abbrev S4x1024x256 : Shape := ⟨3, ![4, 1024, 256]⟩
abbrev S8x1024x128 : Shape := ⟨3, ![8, 1024, 128]⟩
abbrev S16x1024 : Shape := ⟨2, ![16, 1024]⟩
abbrev S2x1x1024x512 : Shape := ⟨4, ![2, 1, 1024, 512]⟩
abbrev S64x64 : Shape := ⟨2, ![64, 64]⟩
abbrev S112x512 : Shape := ⟨2, ![112, 512]⟩
abbrev S128x512 : Shape := ⟨2, ![128, 512]⟩
abbrev S96x512 : Shape := ⟨2, ![96, 512]⟩
abbrev S128x1024 : Shape := ⟨2, ![128, 1024]⟩
abbrev S256 : Shape := ⟨1, ![256]⟩
abbrev S256x1 : Shape := ⟨2, ![256, 1]⟩
abbrev S1024x640 : Shape := ⟨2, ![1024, 640]⟩
abbrev S256x640 : Shape := ⟨2, ![256, 640]⟩
abbrev S256x128 : Shape := ⟨2, ![256, 128]⟩
abbrev S1x256 : Shape := ⟨2, ![1, 256]⟩
abbrev S1024x512 : Shape := ⟨2, ![1024, 512]⟩
abbrev S256x512 : Shape := ⟨2, ![256, 512]⟩
abbrev S1x256x256 : Shape := ⟨3, ![1, 256, 256]⟩
abbrev S4x64x256 : Shape := ⟨3, ![4, 64, 256]⟩
abbrev S4x1x256 : Shape := ⟨3, ![4, 1, 256]⟩
abbrev S1x256x128 : Shape := ⟨3, ![1, 256, 128]⟩
abbrev S4x256 : Shape := ⟨2, ![4, 256]⟩
abbrev S64x128 : Shape := ⟨2, ![64, 128]⟩
abbrev S1x64x256 : Shape := ⟨3, ![1, 64, 256]⟩
abbrev S64x256 : Shape := ⟨2, ![64, 256]⟩
abbrev S1x1x256x128 : Shape := ⟨4, ![1, 1, 256, 128]⟩

abbrev nBuf : Space → Nat
  | .hbm => 82
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5664, .f32⟩
  | .hbm, ⟨3, _⟩ => ⟨S1x16x512, .f32⟩
  | .hbm, ⟨4, _⟩ => ⟨S1x512, .f32⟩
  | .hbm, ⟨5, _⟩ => ⟨S1x16x512, .f32⟩
  | .hbm, ⟨6, _⟩ => ⟨S1x512, .f32⟩
  | .hbm, ⟨7, _⟩ => ⟨S128x128, .f32⟩
  | .hbm, ⟨8, _⟩ => ⟨S128x128, .f32⟩
  | .hbm, ⟨9, _⟩ => ⟨S1x1024x4096, .f32⟩
  | .hbm, ⟨10, _⟩ => ⟨S1024x4096, .f32⟩
  | .hbm, ⟨11, _⟩ => ⟨S1024x4096, .bf16⟩
  | .hbm, ⟨12, _⟩ => ⟨S128x256, .f32⟩
  | .hbm, ⟨13, _⟩ => ⟨S_, .i32⟩
  | .hbm, ⟨14, _⟩ => ⟨S_, .f32⟩
  | .hbm, ⟨15, _⟩ => ⟨S256x256, .f32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i1⟩
  | .hbm, ⟨31, _⟩ => ⟨S256x256, .i1⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S_, .i32⟩
  | .hbm, ⟨42, _⟩ => ⟨S256x256, .i32⟩
  | .hbm, ⟨43, _⟩ => ⟨S256x256, .i1⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S256x256, .i32⟩
  | .hbm, ⟨48, _⟩ => ⟨S256x256, .i1⟩
  | .hbm, ⟨49, _⟩ => ⟨S256x256, .i1⟩
  | .hbm, ⟨50, _⟩ => ⟨S_, .i32⟩
  | .hbm, ⟨51, _⟩ => ⟨S256x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S256x256, .i1⟩
  | .hbm, ⟨57, _⟩ => ⟨S_, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .i1⟩
  | .hbm, ⟨63, _⟩ => ⟨S256x256, .i1⟩
  | .hbm, ⟨64, _⟩ => ⟨S_, .f32⟩
  | .hbm, ⟨65, _⟩ => ⟨S_, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S16384x1024, .f32⟩
  | .hbm, ⟨70, _⟩ => ⟨S1024, .f32⟩
  | .hbm, ⟨71, _⟩ => ⟨S1x1024, .f32⟩
  | .hbm, ⟨72, _⟩ => ⟨S16x512, .f32⟩
  | .hbm, ⟨73, _⟩ => ⟨S16x512, .f32⟩
  | .hbm, ⟨74, _⟩ => ⟨S256x256, .bf16⟩
  | .hbm, ⟨75, _⟩ => ⟨S256x256, .bf16⟩
  | .hbm, ⟨76, _⟩ => ⟨S4x16384x256, .bf16⟩
  | .hbm, ⟨77, _⟩ => ⟨S16384x1024, .bf16⟩
  | .hbm, ⟨78, _⟩ => ⟨S8x16384x128, .bf16⟩
  | .hbm, ⟨79, _⟩ => ⟨S8x16384x128, .bf16⟩
  | .hbm, ⟨80, _⟩ => ⟨S256x1024, .f32⟩
  | .hbm, ⟨81, _⟩ => ⟨S2x2x8192x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S16x512, .f32⟩
  | .local _ .vmem, ⟨6, _⟩ => ⟨S16x512, .f32⟩
  | .local _ .vmem, ⟨7, _⟩ => ⟨S1x512, .f32⟩
  | .local _ .vmem, ⟨8, _⟩ => ⟨S1x512, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S256x256, .f32⟩
  | .local _ .vmem, ⟨13, _⟩ => ⟨S256x256, .f32⟩
  | .local _ .vmem, ⟨14, _⟩ => ⟨S4x1024x256, .bf16⟩
  | .local _ .vmem, ⟨15, _⟩ => ⟨S4x1024x256, .bf16⟩
  | .local _ .vmem, ⟨16, _⟩ => ⟨S1024x1024, .bf16⟩
  | .local _ .vmem, ⟨17, _⟩ => ⟨S1024x1024, .bf16⟩
  | .local _ .vmem, ⟨18, _⟩ => ⟨S8x1024x128, .bf16⟩
  | .local _ .vmem, ⟨19, _⟩ => ⟨S8x1024x128, .bf16⟩
  | .local _ .vmem, ⟨20, _⟩ => ⟨S8x1024x128, .bf16⟩
  | .local _ .vmem, ⟨21, _⟩ => ⟨S8x1024x128, .bf16⟩
  | .local _ .vmem, ⟨22, _⟩ => ⟨S16x1024, .f32⟩
  | .local _ .vmem, ⟨23, _⟩ => ⟨S16x1024, .f32⟩
  | .local _ .vmem, ⟨24, _⟩ => ⟨S2x1x1024x512, .bf16⟩
  | .local _ .vmem, ⟨25, _⟩ => ⟨S2x1x1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v7 : Ref sig .tc := ⟨.hbm, 35, rfl⟩
abbrev main_c_1 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst : Ref sig .tc := ⟨.hbm, 57, rfl⟩
abbrev main_cst_2 : Ref sig .tc := ⟨.hbm, 58, rfl⟩
abbrev main_call3_v0 : Ref sig .tc := ⟨.hbm, 59, rfl⟩
abbrev main_call3_v1 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_cst_3 : Ref sig .tc := ⟨.hbm, 64, rfl⟩
abbrev main_cst_4 : Ref sig .tc := ⟨.hbm, 65, rfl⟩
abbrev main_call4_v0 : Ref sig .tc := ⟨.hbm, 66, rfl⟩
abbrev main_call4_v1 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23_0 : Ref sig .tc := ⟨.hbm, 76, rfl⟩
abbrev main_v23_1 : Ref sig .tc := ⟨.hbm, 77, rfl⟩
abbrev main_v23_2 : Ref sig .tc := ⟨.hbm, 78, rfl⟩
abbrev main_v23_3 : Ref sig .tc := ⟨.hbm, 79, rfl⟩
abbrev main_v23_4 : Ref sig .tc := ⟨.hbm, 80, rfl⟩
abbrev main_v23_5 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S2x8192x1024 : Shape := ⟨3, ![2, 8192, 1024]⟩
abbrev S1x1024 : Shape := ⟨2, ![1, 1024]⟩
abbrev S1x1024x5664 : Shape := ⟨3, ![1, 1024, 5664]⟩
abbrev S1x16x512 : Shape := ⟨3, ![1, 16, 512]⟩
abbrev S1x512 : Shape := ⟨2, ![1, 512]⟩
abbrev S128x128 : Shape := ⟨2, ![128, 128]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5664 : Shape := ⟨2, ![1024, 5664]⟩
abbrev S2x8192x5664 : Shape := ⟨3, ![2, 8192, 5664]⟩
abbrev S16384x4x256 : Shape := ⟨3, ![16384, 4, 256]⟩
abbrev S4x16384x256 : Shape := ⟨3, ![4, 16384, 256]⟩
abbrev S2x8192x512 : Shape := ⟨3, ![2, 8192, 512]⟩
abbrev S2x8192x4x128 : Shape := ⟨4, ![2, 8192, 4, 128]⟩
abbrev S1x2x8192x512 : Shape := ⟨4, ![1, 2, 8192, 512]⟩
abbrev S2x2x8192x512 : Shape := ⟨4, ![2, 2, 8192, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5664, .f32⟩
  | .hbm, ⟨3, _⟩ => ⟨S1x16x512, .f32⟩
  | .hbm, ⟨4, _⟩ => ⟨S1x512, .f32⟩
  | .hbm, ⟨5, _⟩ => ⟨S1x16x512, .f32⟩
  | .hbm, ⟨6, _⟩ => ⟨S1x512, .f32⟩
  | .hbm, ⟨7, _⟩ => ⟨S128x128, .f32⟩
  | .hbm, ⟨8, _⟩ => ⟨S128x128, .f32⟩
  | .hbm, ⟨9, _⟩ => ⟨S1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S1024x5664, .f32⟩
  | .hbm, ⟨27, _⟩ => ⟨S2x8192x5664, .f32⟩
  | .hbm, ⟨28, _⟩ => ⟨S2x8192x1024, .f32⟩
  | .hbm, ⟨29, _⟩ => ⟨S16384x4x256, .f32⟩
  | .hbm, ⟨30, _⟩ => ⟨S4x16384x256, .f32⟩
  | .hbm, ⟨31, _⟩ => ⟨S2x8192x512, .f32⟩
  | .hbm, ⟨32, _⟩ => ⟨S2x8192x4x128, .f32⟩
  | .hbm, ⟨33, _⟩ => ⟨S2x8192x4x128, .f32⟩
  | .hbm, ⟨34, _⟩ => ⟨S2x8192x512, .f32⟩
  | .hbm, ⟨35, _⟩ => ⟨S2x8192x4x128, .f32⟩
  | .hbm, ⟨36, _⟩ => ⟨S2x8192x512, .f32⟩
  | .hbm, ⟨37, _⟩ => ⟨S1x2x8192x512, .f32⟩
  | .hbm, ⟨38, _⟩ => ⟨S1x2x8192x512, .f32⟩
  | .hbm, ⟨39, _⟩ => ⟨S2x2x8192x512, .f32⟩
  | .hbm, ⟨40, _⟩ => ⟨S4x16384x256, .bf16⟩
  | .hbm, ⟨41, _⟩ => ⟨S2x2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.RowMath.lean ====
/-
  Mathematics of the layer's dense part, one token (one row) at a time, over the extended reals. Nothing here knows
  about tiles, grids or programs: `TailTile.lean` shows that the kernel computes these functions of the rows it is
  handed, and `TailRef.lean` that the reference does.
-/
module

public import Idealize.ShloMosaic.Lib.ValueIdx

@[expose] public section

noncomputable section

namespace Cert.Row

open Idealize.ShloMosaic

/-- The small constant added to a mean square. -/
def eps : EReal := Ideal.ofBits .f32 0x358637BD#32
/-- The number one, as both programs print it. -/
def one : EReal := Ideal.ofBits .f32 0x3F800000#32
/-- The length of a model row, 1024, as both programs print it. -/
def len1024 : EReal := Ideal.ofBits .f32 0x44800000#32
/-- The length of a head, 256, as both programs print it. -/
def len256 : EReal := Ideal.ofBits .f32 0x43800000#32

/-- Root-mean-square normalisation of the row `v` of length `c`, scaled by `g`. -/
def rms {n : ℕ} (c : EReal) (v g : Fin n → EReal) : Fin n → EReal := fun j =>
  v j * Ideal.rsqrt (Ideal.div (∑ k, v k * v k) c + eps) * g j

/-- A row times a matrix. -/
def dot {m n : ℕ} (v : Fin m → EReal) (w : Fin m → Fin n → EReal) : Fin n → EReal := fun j => ∑ k, v k * w k j

/-- The logistic function. -/
def sigmoid (x : EReal) : EReal := Ideal.div one (one + Ideal.exp (-x))

/-- The square of the positive part. -/
def reluSq (x : EReal) : EReal := max x 0 * max x 0

/-- The `h`-th of the four heads of a model row. -/
def headOf (v : Fin 1024 → EReal) (h : Fin 4) : Fin 256 → EReal := fun c => v (finProdFinEquiv (h, c))

/-- Each of the four heads of a row normalised on its own, with one scale `g` for all of them. -/
def headRms (v : Fin 1024 → EReal) (g : Fin 256 → EReal) : Fin 1024 → EReal := fun j =>
  rms len256 (headOf v (finProdFinEquiv (m := 4) (n := 256).symm j).1) g (finProdFinEquiv (m := 4) (n := 256).symm j).2

/-- The weights the dense part reads, as functions of their coordinates. -/
structure Weights where
  /-- scale of the mixer's normalisation -/
  nmix : Fin 1024 → EReal
  /-- scale of the head normalisation -/
  gn : Fin 256 → EReal
  /-- scale of the feed-forward normalisation -/
  nffn : Fin 1024 → EReal
  /-- scale of the final normalisation -/
  nfin : Fin 1024 → EReal
  /-- projection to the attention's gate -/
  wg : Fin 1024 → Fin 1024 → EReal
  /-- projection to the merge gate of the attention -/
  wa : Fin 1024 → Fin 1024 → EReal
  /-- projection to the merge gate of the Fourier branch -/
  wb : Fin 1024 → Fin 1024 → EReal
  /-- output projection of the attention -/
  wo : Fin 1024 → Fin 1024 → EReal
  /-- output projection of the Fourier branch -/
  wf : Fin 512 → Fin 1024 → EReal
  /-- projection of the merged branches -/
  wout : Fin 1024 → Fin 1024 → EReal
  /-- first feed-forward matrix -/
  w1 : Fin 1024 → Fin 4096 → EReal
  /-- second feed-forward matrix -/
  w2 : Fin 4096 → Fin 1024 → EReal

/-- The heads' normalisation at one place of one head. -/
theorem headRms_at (v : Fin 1024 → EReal) (g : Fin 256 → EReal) (h : Fin 4) (c : Fin 256) :
    headRms v g (finProdFinEquiv (m := 4) (n := 256) (h, c)) = rms len256 (headOf v h) g c := by
  unfold headRms
  rw [Equiv.symm_apply_apply]

variable (W : Weights)

/-- The attention branch of a row: the three partial outputs summed, normalised head by head, gated with the SiLU of
    the gate's projection of the normalised input `n`, and projected. -/
def attn (n ol of ob : Fin 1024 → EReal) : Fin 1024 → EReal :=
  dot (fun k => headRms (fun j => ol j + of j + ob j) W.gn k * (dot n W.wg k * sigmoid (dot n W.wg k))) W.wo

/-- The two branches of a row weighted by their merge gates and added. -/
def merged (n ol of ob : Fin 1024 → EReal) (y : Fin 512 → EReal) : Fin 1024 → EReal := fun j =>
  sigmoid (dot n W.wa j) * attn W n ol of ob j + sigmoid (dot n W.wb j) * dot y W.wf j

/-- A row after the mixer: the residual plus the projected merge. -/
def mixed (x ol of ob : Fin 1024 → EReal) (y : Fin 512 → EReal) : Fin 1024 → EReal := fun j =>
  x j + dot (merged W (rms len1024 x W.nmix) ol of ob y) W.wout j

/-- A row after the feed-forward block: the residual plus the squared-ReLU network of the normalised row. -/
def ffn (h : Fin 1024 → EReal) : Fin 1024 → EReal := fun j =>
  h j + dot (fun k => reluSq (dot (rms len1024 h W.nffn) W.w1 k)) W.w2 j

/-- A row of the layer's result from the row of the residual stream and the rows of the mixers' outputs. -/
def tail (x ol of ob : Fin 1024 → EReal) (y : Fin 512 → EReal) : Fin 1024 → EReal :=
  rms len1024 (ffn W (mixed W x ol of ob y)) W.nfin

/-- A product with a long row is the sum of the products with its four equal pieces. -/
theorem sum_four {m : ℕ} (f : Fin (4 * m) → EReal) :
    ∑ k, f k = (∑ k : Fin m, f (finProdFinEquiv (0, k))) + (∑ k : Fin m, f (finProdFinEquiv (1, k)))
      + (∑ k : Fin m, f (finProdFinEquiv (2, k))) + ∑ k : Fin m, f (finProdFinEquiv (3, k)) := by
  rw [← Equiv.sum_comp finProdFinEquiv f, Fintype.sum_prod_type, Fin.sum_univ_four]

/-- A sum over a model row is the sum of the sums over its heads. -/
theorem sum_heads (f : Fin 1024 → EReal) :
    (∑ k : Fin 256, f (finProdFinEquiv (m := 4) (n := 256) (0, k))) + (∑ k : Fin 256, f (finProdFinEquiv (m := 4) (n := 256) (1, k)))
      + (∑ k : Fin 256, f (finProdFinEquiv (m := 4) (n := 256) (2, k))) + ∑ k : Fin 256, f (finProdFinEquiv (m := 4) (n := 256) (3, k))
      = ∑ k, f k := (sum_four (m := 256) f).symm

/-- A sum over the feed-forward block's hidden places is the sum of the sums over its quarters. -/
theorem sum_quarters (f : Fin 4096 → EReal) :
    (∑ k : Fin 1024, f (finProdFinEquiv (m := 4) (n := 1024) (0, k))) + (∑ k : Fin 1024, f (finProdFinEquiv (m := 4) (n := 1024) (1, k)))
      + (∑ k : Fin 1024, f (finProdFinEquiv (m := 4) (n := 1024) (2, k))) + ∑ k : Fin 1024, f (finProdFinEquiv (m := 4) (n := 1024) (3, k))
      = ∑ k, f k := (sum_four (m := 1024) f).symm

end Cert.Row
-- ==== Proof.TileOps.lean ====
/-
  Three groups of vector operations the kernel repeats, each in closed form over the extended reals: a normalisation of
  the rows of a block, a matrix product into zero, and the logistic function.
-/
module

public import proofs.«01_k».proof.Proof.RowMath
public import Idealize.ShloMosaic.Lib.MatmulPlain
public import Idealize.ShloMosaic.Lib.ValueLayout
public import Idealize.ShloMosaic.Lib.Pipeline.Value
public import Idealize.ShloMosaic.PureOps.Ideal.Laws

@[expose] public section

noncomputable section

namespace Cert.Tile

open Idealize.ShloMosaic Idealize.ShloMosaic.ValueIdx

/-- A two-dimensional block of extended reals. -/
abbrev Block (m n : ℕ) : Type := (⟨2, ![m, n]⟩ : Shape).Idx → EReal

/-- Row `r` of a block. -/
def row {m n : ℕ} (X : Block m n) (r : Fin m) : Fin n → EReal := fun j => X (ix2 r j)

/-- A block from its rows. -/
def ofRows {m n : ℕ} (f : Fin m → Fin n → EReal) : Block m n := fun i => f (i 0) (i 1)

@[simp] theorem row_ofRows {m n : ℕ} (f : Fin m → Fin n → EReal) (r : Fin m) : row (ofRows f) r = f r := rfl

theorem ofRows_apply {m n : ℕ} (f : Fin m → Fin n → EReal) (r : Fin m) (j : Fin n) : ofRows f (ix2 r j) = f r j := rfl

/-- A block is the block of its rows. -/
theorem eq_ofRows {m n : ℕ} (X : Block m n) (f : Fin m → Fin n → EReal) (h : ∀ r j, X (ix2 r j) = f r j) : X = ofRows f := by
  funext i
  rw [eq_ix2 i]
  exact h _ _

/-- Every row of a block normalised. -/
def rmsB {m n : ℕ} (c : EReal) (X : Block m n) (g : Block 1 n) : Block m n := ofRows fun r => Row.rms c (row X r) (row g 0)

/-- The product of two blocks. -/
def mul {m k n : ℕ} (A : Block m k) (B : Block k n) : Block m n := ofRows fun r => Row.dot (row A r) (row B)

/-- The logistic function of every entry. -/
def sig {m n : ℕ} (A : Block m n) : Block m n := fun i => Row.sigmoid (A i)

/-- The squared positive part of every entry. -/
def reluSqB {m n : ℕ} (A : Block m n) : Block m n := fun i => Row.reluSq (A i)

/-- A change of format leaves a block of extended reals as it is. -/
theorem truncf_eq {m n : ℕ} {φ ψ : FTy} (a : FVec Ideal ⟨2, ![m, n]⟩ φ) (h : ψ.bits < φ.bits) :
    truncf ψ a h = (a : Block m n) := rfl

/-- A change of format leaves a block of extended reals as it is. -/
theorem extf_eq {m n : ℕ} {φ ψ : FTy} (a : FVec Ideal ⟨2, ![m, n]⟩ φ) (h : φ.bits < ψ.bits) :
    extf ψ a h = (a : Block m n) := rfl

/-- A product accumulated into zero is the product of the blocks. -/
theorem matmul_eq {m k n : ℕ} {φ₁ φ₂ : FTy} (prec : Option ContractPrecision) (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂) :
    matmul D prec A B (constant ⟨2, ![m, n]⟩ .f32 0x00000000#32) = mul A B := by
  subst hD
  refine eq_ofRows _ _ fun r j => ?_
  refine (Ideal.matmul_plain_apply prec A B _ r j).trans ?_
  rw [constant_apply, show Ideal.ofBits .f32 0x00000000#32 = 0 from IdealRules.sign_bit.ideal_zero .f32, zero_add]
  rfl

/-- The printed logistic function is the logistic function. -/
theorem sig_eq {m n : ℕ} (A : FVec Ideal ⟨2, ![m, n]⟩ .f32) :
    divf (broadcast ⟨2, ![m, n]⟩ (Scalar.ofBits .f32 0x3F800000#32))
      (addf (broadcast ⟨2, ![m, n]⟩ (Scalar.ofBits .f32 0x3F800000#32))
        (exp (subf (broadcast ⟨2, ![m, n]⟩ (Scalar.ofBits .f32 0x00000000#32)) A))) = sig A := by
  funext i
  show Ideal.div _ (_ + Ideal.exp (Ideal.ofBits .f32 0x00000000#32 - A i)) = _
  rw [show Ideal.ofBits .f32 0x00000000#32 = 0 from IdealRules.sign_bit.ideal_zero .f32, zero_sub]
  rfl

/-- The printed squared positive part is the squared positive part. -/
theorem reluSq_eq {m n : ℕ} (A : FVec Ideal ⟨2, ![m, n]⟩ .f32) :
    mulf (maximumf A (broadcast ⟨2, ![m, n]⟩ (Scalar.ofBits .f32 0x00000000#32)))
      (maximumf A (broadcast ⟨2, ![m, n]⟩ (Scalar.ofBits .f32 0x00000000#32))) = reluSqB A := by
  funext i
  show max (A i) (Ideal.ofBits .f32 0x00000000#32) * max (A i) (Ideal.ofBits .f32 0x00000000#32) = _
  rw [show Ideal.ofBits .f32 0x00000000#32 = 0 from IdealRules.sign_bit.ideal_zero .f32]
  rfl

/-- The printed normalisation of a block's rows is the normalisation of its rows. -/
theorem rms_eq {m n : ℕ} (b : BitVec 32) (X : FVec Ideal ⟨2, ![m, n]⟩ .f32) (g : FVec Ideal ⟨2, ![1, n]⟩ .f32)
    (hr : (⟨2, ![m, n]⟩ : Shape).Reduces [1] ⟨1, ![m]⟩) (hs : (⟨1, ![m]⟩ : Shape).ShapeCasts ⟨2, ![m, 1]⟩)
    (hc : (⟨2, ![m, 1]⟩ : Shape).Broadcasts ⟨2, ![m, n]⟩) (hg : (⟨2, ![1, n]⟩ : Shape).Broadcasts ⟨2, ![m, n]⟩)
    (hφ : FKind.Formats .f32) (ha : 0x00000000#32 = FKind.add.neutral .f32 hφ) :
    mulf (mulf X (broadcastTo ⟨2, ![m, n]⟩ (rsqrt (addf (divf
      (shapeCast ⟨2, ![m, 1]⟩ (multiReduction .add [1] ⟨1, ![m]⟩ (mulf X X) 0x00000000#32 hr hφ ha) hs)
      (broadcast ⟨2, ![m, 1]⟩ (Scalar.ofBits .f32 b))) (broadcast ⟨2, ![m, 1]⟩ (Scalar.ofBits .f32 0x358637BD#32)))) hc))
      (broadcastTo ⟨2, ![m, n]⟩ g hg) = rmsB (Ideal.ofBits .f32 b) X g := by
  refine eq_ofRows _ _ fun r j => ?_
  rw [mulf_apply, mulf_apply, broadcastTo_1b_ab_apply]
  rw [broadcastTo_apply _ hc (ix2 r j) (ix2 r (0 : Fin 1)) (fun ax => by
    match ax with
    | ⟨0, _⟩ =>
      show r.val = if m = 1 then 0 else r.val
      split
      · have := r.isLt; omega
      · rfl
    | ⟨1, _⟩ => rfl)]
  have key : shapeCast ⟨2, ![m, 1]⟩ (multiReduction .add [1] ⟨1, ![m]⟩ (mulf X X) 0x00000000#32 hr hφ ha) hs (ix2 r (0 : Fin 1))
      = ∑ k : Fin n, X (ix2 r k) * X (ix2 r k) := by
    rw [shapeCast_apply _ hs (ix2 r (0 : Fin 1)) (ix1 r) (by
      rw [Shape.rowMajor_val_one, Shape.rowMajor_val_two]
      show r.val = r.val * 1 + 0
      omega)]
    rw [Ideal.multiReduction_add_single]
    refine Finset.sum_congr rfl fun k _ => ?_
    have : hr.lift (ix1 r) k = ix2 r k := by
      funext ax
      match ax with
      | ⟨0, _⟩ => rfl
      | ⟨1, _⟩ => rfl
    exact congrArg (fun i => X i * X i) this
  show X (ix2 r j) * Ideal.rsqrt (Ideal.div (shapeCast ⟨2, ![m, 1]⟩ _ hs (ix2 r (0 : Fin 1))) _ + _) * _ = _
  rw [key]
  rfl

end Cert.Tile
-- ==== Proof.TailTile.lean ====
/-
  The tile of the dense part's kernel: each of the two stores of a grid point writes 256 rows, and every row of what
  they write is the function `Row.tail` of the same row of the blocks the kernel is handed.
-/
module

public import proofs.«01_k».proof.Proof.TileOps
public import proofs.«01_k».proof.Proof.Gen.Kernel2Ideal.Value
public import Idealize.ShloMosaic.Lib.Pipeline.ValueKit.Tiles

@[expose] public section

noncomputable section

namespace Cert.Tail

open Idealize.ShloMosaic Idealize.ShloMosaic.ValueIdx Cert.Kernel2Ideal Cert.Kernel2Ideal.Gen Cert.Tile

/-! ### The closed form of one store -/

/-- The part of the attention's projection that one head gives. -/
def headOut (n : Block 256 1024) (ol of ob : Block 256 256) (gn : Block 1 256) (wg : Block 1024 256) (wo : Block 256 1024) :
    Block 256 1024 := mul (fun i => rmsB Row.len256 (fun i => ol i + of i + ob i) gn i * (mul n wg i * sig (mul n wg) i)) wo

/-- The rows after the mixer. -/
def mixedB (x : Block 256 1024) (ol of ob : Fin 4 → Block 256 256) (y : Block 256 512) (nmix : Block 1 1024) (gn : Block 1 256)
    (wg : Fin 4 → Block 1024 256) (wa wb : Block 1024 1024) (wo : Fin 4 → Block 256 1024) (wf : Block 512 1024)
    (wout : Block 1024 1024) : Block 256 1024 :=
  let n := rmsB Row.len1024 x nmix
  let head := fun h => headOut n (ol h) (of h) (ob h) gn (wg h) (wo h)
  fun i => x i + mul (fun i => sig (mul n wa) i * (head 0 i + head 1 i + head 2 i + head 3 i)
    + sig (mul n wb) i * mul y wf i) wout i

/-- What one quarter of the feed-forward block's hidden places adds. -/
def quarter (n : Block 256 1024) (w1 w2 : Block 1024 1024) : Block 256 1024 := mul (reluSqB (mul n w1)) w2

/-- The rows of the result. -/
def tailB (h : Block 256 1024) (nffn nfin : Block 1 1024) (w1 w2 : Fin 4 → Block 1024 1024) : Block 256 1024 :=
  let q := fun k => quarter (rmsB Row.len1024 h nffn) (w1 k) (w2 k)
  rmsB Row.len1024 (fun i => h i + q 0 i + q 1 i + q 2 i + q 3 i) nfin

/-- The products of the kernel, each in closed form: the normalised input with a head's gate weights … -/
theorem mm1 {φ₁ φ₂ : FTy} (A : FVec Ideal S256x1024 φ₁) (B : FVec Ideal S1024x256 φ₂) :
    matmul dot_S256x1024_S1024x256_S256x256_1_0_0_1_n_n none A B (constant S256x256 .f32 0x00000000#32) = mul A B :=
  matmul_eq none _ rfl A B
/-- … a model row with a square matrix … -/
theorem mm2 {φ₁ φ₂ : FTy} (A : FVec Ideal S256x1024 φ₁) (B : FVec Ideal S1024x1024 φ₂) :
    matmul dot_S256x1024_S1024x1024_S256x1024_1_0_0_1_n_n none A B (constant S256x1024 .f32 0x00000000#32) = mul A B :=
  matmul_eq none _ rfl A B
/-- … the Fourier branch with its projection … -/
theorem mm3 {φ₁ φ₂ : FTy} (A : FVec Ideal S256x512 φ₁) (B : FVec Ideal S512x1024 φ₂) :
    matmul dot_S256x512_S512x1024_S256x1024_1_0_0_1_n_n none A B (constant S256x1024 .f32 0x00000000#32) = mul A B :=
  matmul_eq none _ rfl A B
/-- … a head with its rows of the output projection. -/
theorem mm4 {φ₁ φ₂ : FTy} (A : FVec Ideal S256x256 φ₁) (B : FVec Ideal S256x1024 φ₂) :
    matmul dot_S256x256_S256x1024_S256x1024_1_0_0_1_n_n none A B (constant S256x1024 .f32 0x00000000#32) = mul A B :=
  matmul_eq none _ rfl A B

/-- The normalisation of a model row … -/
theorem rms1 (X : FVec Ideal S256x1024 .f32) (g : FVec Ideal S1x1024 .f32) :
    mulf (mulf X (broadcastTo S256x1024 (rsqrt (addf (divf
      (shapeCast S256x1 (FloatOps.reduceAdd (F := Ideal) (φ := .f32) (no_index [1]) reduces_S256x1024_S256 (mulf X X)) shapeCasts_S256_S256x1)
      (broadcast S256x1 (FloatOps.ofBits .f32 0x44800000#32))) (broadcast S256x1 (FloatOps.ofBits .f32 0x358637BD#32)))) broadcasts_S256x1_S256x1024))
      (broadcastTo S256x1024 g broadcasts_S1x1024_S256x1024) = rmsB Row.len1024 X g :=
  rms_eq _ X g _ _ _ _ (.inl rfl) rfl
/-- … and of a head. -/
theorem rms2 (X : FVec Ideal S256x256 .f32) (g : FVec Ideal S1x256 .f32) :
    mulf (mulf X (broadcastTo S256x256 (rsqrt (addf (divf
      (shapeCast S256x1 (FloatOps.reduceAdd (F := Ideal) (φ := .f32) (no_index [1]) reduces_S256x256_S256 (mulf X X)) shapeCasts_S256_S256x1)
      (broadcast S256x1 (FloatOps.ofBits .f32 0x43800000#32))) (broadcast S256x1 (FloatOps.ofBits .f32 0x358637BD#32)))) broadcasts_S256x1_S256x256))
      (broadcastTo S256x256 g broadcasts_S1x256_S256x256) = rmsB Row.len256 X g :=
  rms_eq _ X g _ _ _ _ (.inl rfl) rfl

set_option maxHeartbeats 1000000 in
/-- What a grid point leaves in the result's block: two stores of 256 rows each, in closed form. -/
theorem out_eq (x0 : Vec Ideal S512x1024 .f32) (x1 : Vec Ideal S512x1024 .bf16) (x2 : Vec Ideal S512x1024 .bf16) (x3 : Vec Ideal S512x1024 .bf16) (x4 : Vec Ideal S512x512 .bf16) (x5 : Vec Ideal S1x1024 .f32) (x6 : Vec Ideal S1x256 .f32) (x7 : Vec Ideal S1x1024 .f32) (x8 : Vec Ideal S1x1024 .f32) (x9 : Vec Ideal S1024x1024 .bf16) (x10 : Vec Ideal S1024x2048 .bf16) (x11 : Vec Ideal S1024x1024 .bf16) (x12 : Vec Ideal S512x1024 .bf16) (x13 : Vec Ideal S1024x1024 .bf16) (x14 : Vec Ideal S1024x4096 .bf16) (x15 : Vec Ideal S4096x1024 .bf16) :
    out0_16 x0 x1 x2 x3 x4 x5 x6 x7 x8 x9 x10 x11 x12 x13 x14 x15 = View.canon
      [⟨r0_2, tailB (mixedB (View.ld x0 r0_2) ![View.ld x1 r0_21, View.ld x1 r0_22, View.ld x1 r0_23, View.ld x1 r0_24]
          ![View.ld x2 r0_21, View.ld x2 r0_22, View.ld x2 r0_23, View.ld x2 r0_24]
          ![View.ld x3 r0_21, View.ld x3 r0_22, View.ld x3 r0_23, View.ld x3 r0_24] (View.ld x4 r0_11) (View.ld x5 r0_1)
          (View.ld x6 r0_13) ![View.ld x9 r0_3, View.ld x9 r0_4, View.ld x9 r0_5, View.ld x9 r0_6] (View.ld x10 r0_7)
          (View.ld x10 r0_8) ![View.ld x11 r0_14, View.ld x11 r0_16, View.ld x11 r0_18, View.ld x11 r0_20] (View.ld x12 r0_10)
          (View.ld x13 r0_25)) (View.ld x7 r0_1) (View.ld x8 r0_1)
          ![View.ld x14 r0_26, View.ld x14 r0_27, View.ld x14 r0_29, View.ld x14 r0_31]
          ![View.ld x15 r0_28, View.ld x15 r0_30, View.ld x15 r0_32, View.ld x15 r0_33]⟩,
        ⟨r0_0, tailB (mixedB (View.ld x0 r0_0) ![View.ld x1 r0_12, View.ld x1 r0_15, View.ld x1 r0_17, View.ld x1 r0_19]
          ![View.ld x2 r0_12, View.ld x2 r0_15, View.ld x2 r0_17, View.ld x2 r0_19]
          ![View.ld x3 r0_12, View.ld x3 r0_15, View.ld x3 r0_17, View.ld x3 r0_19] (View.ld x4 r0_9) (View.ld x5 r0_1)
          (View.ld x6 r0_13) ![View.ld x9 r0_3, View.ld x9 r0_4, View.ld x9 r0_5, View.ld x9 r0_6] (View.ld x10 r0_7)
          (View.ld x10 r0_8) ![View.ld x11 r0_14, View.ld x11 r0_16, View.ld x11 r0_18, View.ld x11 r0_20] (View.ld x12 r0_10)
          (View.ld x13 r0_25)) (View.ld x7 r0_1) (View.ld x8 r0_1)
          ![View.ld x14 r0_26, View.ld x14 r0_27, View.ld x14 r0_29, View.ld x14 r0_31]
          ![View.ld x15 r0_28, View.ld x15 r0_30, View.ld x15 r0_32, View.ld x15 r0_33]⟩] := by
  simp only [out0_16, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, multiReduction, shapeCast_self, mm1, mm2, mm3,
    mm4, truncf_eq, extf_eq, sig_eq, reluSq_eq, rms1, rms2]
  rfl

/-! ### Its rows -/

section Rows

variable {W : Row.Weights}

theorem row_headOut (n : Block 256 1024) (ol of ob : Block 256 256) (gn : Block 1 256) (wg : Block 1024 256)
    (wo : Block 256 1024) (r : Fin 256) (j : Fin 1024) :
    headOut n ol of ob gn wg wo (ix2 r j)
      = ∑ c, Row.rms Row.len256 (fun c => row ol r c + row of r c + row ob r c) (row gn 0) c
          * (Row.dot (row n r) (row wg) c * Row.sigmoid (Row.dot (row n r) (row wg) c)) * row wo c j := rfl

/-- A row after the mixer is the mixer's function of the rows. -/
theorem row_mixedB (x : Block 256 1024) (ol of ob : Fin 4 → Block 256 256) (y : Block 256 512) (nmix : Block 1 1024)
    (gn : Block 1 256) (wg : Fin 4 → Block 1024 256) (wa wb : Block 1024 1024) (wo : Fin 4 → Block 256 1024)
    (wf : Block 512 1024) (wout : Block 1024 1024) (r : Fin 256) (vl vf vb : Fin 1024 → EReal)
    (hl : ∀ h, row (ol h) r = Row.headOf vl h) (hf : ∀ h, row (of h) r = Row.headOf vf h)
    (hb : ∀ h, row (ob h) r = Row.headOf vb h) (hnmix : row nmix 0 = W.nmix) (hgn : row gn 0 = W.gn)
    (hwg : ∀ h k c, wg h (ix2 k c) = W.wg k (finProdFinEquiv (m := 4) (n := 256) (h, c))) (hwa : row wa = W.wa)
    (hwb : row wb = W.wb) (hwo : ∀ h c j, wo h (ix2 c j) = W.wo (finProdFinEquiv (m := 4) (n := 256) (h, c)) j)
    (hwf : row wf = W.wf) (hwout : row wout = W.wout) :
    row (mixedB x ol of ob y nmix gn wg wa wb wo wf wout) r = Row.mixed W (row x r) vl vf vb (row y r) := by
  have hn : row (rmsB Row.len1024 x nmix) r = Row.rms Row.len1024 (row x r) W.nmix := by rw [← hnmix]; rfl
  obtain ⟨F, hF⟩ : ∃ F : Fin 1024 → Fin 1024 → EReal, F = fun j k => Row.headRms (fun j => vl j + vf j + vb j) W.gn k
      * (Row.dot (Row.rms Row.len1024 (row x r) W.nmix) W.wg k * Row.sigmoid (Row.dot (Row.rms Row.len1024 (row x r) W.nmix) W.wg k))
      * W.wo k j := ⟨_, rfl⟩
  have hh : ∀ h j, headOut (rmsB Row.len1024 x nmix) (ol h) (of h) (ob h) gn (wg h) (wo h) (ix2 r j)
      = ∑ c : Fin 256, F j (finProdFinEquiv (m := 4) (n := 256) (h, c)) := by
    intro h j
    rw [row_headOut]
    refine Finset.sum_congr rfl fun c _ => ?_
    have e1 : (fun c => row (ol h) r c + row (of h) r c + row (ob h) r c)
        = Row.headOf (fun j => vl j + vf j + vb j) h := by rw [hl, hf, hb]; rfl
    have e2 : Row.dot (row (rmsB Row.len1024 x nmix) r) (row (wg h)) c
        = Row.dot (Row.rms Row.len1024 (row x r) W.nmix) W.wg (finProdFinEquiv (m := 4) (n := 256) (h, c)) := by
      rw [hn]
      exact Finset.sum_congr rfl fun k _ => congrArg (_ * ·) (hwg h k c)
    rw [hF]
    show _ = Row.headRms _ _ _ * _ * _
    rw [e1, e2, hgn, Row.headRms_at, show row (wo h) c j = _ from hwo h c j]
  have hm : ∀ j, sig (mul (rmsB Row.len1024 x nmix) wa) (ix2 r j)
        * (headOut (rmsB Row.len1024 x nmix) (ol 0) (of 0) (ob 0) gn (wg 0) (wo 0) (ix2 r j)
          + headOut (rmsB Row.len1024 x nmix) (ol 1) (of 1) (ob 1) gn (wg 1) (wo 1) (ix2 r j)
          + headOut (rmsB Row.len1024 x nmix) (ol 2) (of 2) (ob 2) gn (wg 2) (wo 2) (ix2 r j)
          + headOut (rmsB Row.len1024 x nmix) (ol 3) (of 3) (ob 3) gn (wg 3) (wo 3) (ix2 r j))
      + sig (mul (rmsB Row.len1024 x nmix) wb) (ix2 r j) * mul y wf (ix2 r j)
      = Row.merged W (Row.rms Row.len1024 (row x r) W.nmix) vl vf vb (row y r) j := by
    intro j
    rw [hh, hh, hh, hh, Row.sum_heads (F j), hF]
    show Row.sigmoid (Row.dot (row _ r) (row wa) j) * _ + Row.sigmoid (Row.dot (row _ r) (row wb) j) * Row.dot (row y r) (row wf) j = _
    rw [hn, hwa, hwb, hwf]
    rfl
  funext j
  show x (ix2 r j) + ∑ k, _ * row wout k j = _
  rw [hwout]
  refine congrArg (row x r j + ·) (Finset.sum_congr rfl fun k _ => congrArg (· * _) ?_)
  exact hm k

/-- A row of the result is the feed-forward block's function of the row after the mixer, normalised. -/
theorem row_tailB (h : Block 256 1024) (nffn nfin : Block 1 1024) (w1 w2 : Fin 4 → Block 1024 1024) (r : Fin 256)
    (hnffn : row nffn 0 = W.nffn) (hnfin : row nfin 0 = W.nfin)
    (hw1 : ∀ q k c, w1 q (ix2 k c) = W.w1 k (finProdFinEquiv (m := 4) (n := 1024) (q, c)))
    (hw2 : ∀ q c j, w2 q (ix2 c j) = W.w2 (finProdFinEquiv (m := 4) (n := 1024) (q, c)) j) :
    row (tailB h nffn nfin w1 w2) r = Row.rms Row.len1024 (Row.ffn W (row h r)) W.nfin := by
  have hn : row (rmsB Row.len1024 h nffn) r = Row.rms Row.len1024 (row h r) W.nffn := by rw [← hnffn]; rfl
  obtain ⟨G, hG⟩ : ∃ G : Fin 1024 → Fin 4096 → EReal, G = fun j k =>
      Row.reluSq (Row.dot (Row.rms Row.len1024 (row h r) W.nffn) W.w1 k) * W.w2 k j := ⟨_, rfl⟩
  have hq : ∀ q j, quarter (rmsB Row.len1024 h nffn) (w1 q) (w2 q) (ix2 r j)
      = ∑ c : Fin 1024, G j (finProdFinEquiv (m := 4) (n := 1024) (q, c)) := by
    intro q j
    show ∑ c : Fin 1024, Row.reluSq (Row.dot (row (rmsB Row.len1024 h nffn) r) (row (w1 q)) c) * w2 q (ix2 c j) = _
    refine Finset.sum_congr rfl fun c _ => ?_
    rw [hw2 q c j, hn, hG]
    have e : Row.dot (Row.rms Row.len1024 (row h r) W.nffn) (row (w1 q)) c
        = Row.dot (Row.rms Row.len1024 (row h r) W.nffn) W.w1 (finProdFinEquiv (m := 4) (n := 1024) (q, c)) :=
      Finset.sum_congr rfl fun k _ => congrArg (_ * ·) (hw1 q k c)
    rw [e]
  have hs : row (fun i => h i + quarter (rmsB Row.len1024 h nffn) (w1 0) (w2 0) i + quarter (rmsB Row.len1024 h nffn) (w1 1) (w2 1) i
      + quarter (rmsB Row.len1024 h nffn) (w1 2) (w2 2) i + quarter (rmsB Row.len1024 h nffn) (w1 3) (w2 3) i) r
      = Row.ffn W (row h r) := by
    funext j
    show h (ix2 r j) + quarter _ _ _ (ix2 r j) + quarter _ _ _ (ix2 r j) + quarter _ _ _ (ix2 r j) + quarter _ _ _ (ix2 r j)
      = _
    rw [hq, hq, hq, hq, add_assoc, add_assoc, add_assoc, ← add_assoc (∑ c, _), ← add_assoc (∑ c, _ + ∑ c, _), Row.sum_quarters (G j), hG]
    rfl
  show Row.rms Row.len1024 (row _ r) (row nfin 0) = _
  rw [hnfin]
  exact congrArg (fun v => Row.rms Row.len1024 v W.nfin) hs

end Rows

/-- The weights as a grid point's blocks of them hold them. -/
def weights (x5 : Vec Ideal S1x1024 .f32) (x6 : Vec Ideal S1x256 .f32) (x7 : Vec Ideal S1x1024 .f32) (x8 : Vec Ideal S1x1024 .f32)
    (x9 : Vec Ideal S1024x1024 .bf16) (x10 : Vec Ideal S1024x2048 .bf16) (x11 : Vec Ideal S1024x1024 .bf16) (x12 : Vec Ideal S512x1024 .bf16)
    (x13 : Vec Ideal S1024x1024 .bf16) (x14 : Vec Ideal S1024x4096 .bf16) (x15 : Vec Ideal S4096x1024 .bf16) : Row.Weights where
  nmix := fun j => x5 (ix2 (0 : Fin 1) j)
  gn := fun j => x6 (ix2 (0 : Fin 1) j)
  nffn := fun j => x7 (ix2 (0 : Fin 1) j)
  nfin := fun j => x8 (ix2 (0 : Fin 1) j)
  wg := fun k j => x9 (ix2 k j)
  wa := fun k j => x10 (ix2 k (⟨j.val, by omega⟩ : Fin 2048))
  wb := fun k j => x10 (ix2 k (⟨1024 + j.val, by omega⟩ : Fin 2048))
  wo := fun k j => x11 (ix2 k j)
  wf := fun k j => x12 (ix2 k j)
  wout := fun k j => x13 (ix2 k j)
  w1 := fun k j => x14 (ix2 k j)
  w2 := fun k j => x15 (ix2 k j)

/-- A load of a block's rectangle at offsets `a`, `b`, read at a place. -/
theorem ld_at {M N m n : ℕ} {e : EltTy} (X : (⟨2, ![M, N]⟩ : Shape).Idx → Elt Ideal e) (a b : ℕ)
    (inb : ∀ k, (![a, b] : Fin 2 → ℕ) k + (![m, n] : Fin 2 → ℕ) k ≤ (⟨2, ![M, N]⟩ : Shape).size k) (r : Fin m) (c : Fin n)
    (R : Fin M) (C : Fin N) (hR : R.val = a + r.val) (hC : C.val = b + c.val) :
    View.ld X (Rect.unit (s := ⟨2, ![M, N]⟩) ![a, b] ![m, n] inb) (ix2 r c) = X (ix2 R C) :=
  View.ld_unit_apply_of X _ _ inb (ix2 r c) (ix2 R C) fun k => by
    match k with
    | ⟨0, _⟩ => exact hR
    | ⟨1, _⟩ => exact hC

/-- The place of a pair in a row cut into equal pieces. -/
theorem place {m n : ℕ} (h : Fin m) (c : Fin n) : (finProdFinEquiv (h, c)).val = c.val + n * h.val := rfl

section Pieces

variable {e : EltTy}

/-- The four pieces of columns of a square matrix, read at a place. -/
theorem wg_pieces (X : S1024x1024.Idx → Elt Ideal e) (q : Fin 4) (k : Fin 1024) (c : Fin 256) :
    (![View.ld X r0_3, View.ld X r0_4, View.ld X r0_5, View.ld X r0_6] : Fin 4 → S1024x256.Idx → Elt Ideal e) q (ix2 k c)
      = X (ix2 k (finProdFinEquiv (m := 4) (n := 256) (q, c))) :=
  match q with
  | ⟨0, _⟩ => ld_at X 0 0 _ k c k _ (Nat.zero_add _).symm (Nat.add_comm c.val 0)
  | ⟨1, _⟩ => ld_at X 0 256 _ k c k _ (Nat.zero_add _).symm (Nat.add_comm c.val 256)
  | ⟨2, _⟩ => ld_at X 0 512 _ k c k _ (Nat.zero_add _).symm (Nat.add_comm c.val 512)
  | ⟨3, _⟩ => ld_at X 0 768 _ k c k _ (Nat.zero_add _).symm (Nat.add_comm c.val 768)

/-- The four pieces of rows of a square matrix, read at a place. -/
theorem wo_pieces (X : S1024x1024.Idx → Elt Ideal e) (q : Fin 4) (c : Fin 256) (k : Fin 1024) :
    (![View.ld X r0_14, View.ld X r0_16, View.ld X r0_18, View.ld X r0_20] : Fin 4 → S256x1024.Idx → Elt Ideal e) q (ix2 c k)
      = X (ix2 (finProdFinEquiv (m := 4) (n := 256) (q, c)) k) :=
  match q with
  | ⟨0, _⟩ => ld_at X 0 0 _ c k _ k (Nat.add_comm c.val 0) (Nat.zero_add _).symm
  | ⟨1, _⟩ => ld_at X 256 0 _ c k _ k (Nat.add_comm c.val 256) (Nat.zero_add _).symm
  | ⟨2, _⟩ => ld_at X 512 0 _ c k _ k (Nat.add_comm c.val 512) (Nat.zero_add _).symm
  | ⟨3, _⟩ => ld_at X 768 0 _ c k _ k (Nat.add_comm c.val 768) (Nat.zero_add _).symm

/-- The four quarters of the columns of the first feed-forward matrix, read at a place. -/
theorem w1_pieces (X : S1024x4096.Idx → Elt Ideal e) (q : Fin 4) (k c : Fin 1024) :
    (![View.ld X r0_26, View.ld X r0_27, View.ld X r0_29, View.ld X r0_31] : Fin 4 → S1024x1024.Idx → Elt Ideal e) q (ix2 k c)
      = X (ix2 k (finProdFinEquiv (m := 4) (n := 1024) (q, c))) :=
  match q with
  | ⟨0, _⟩ => ld_at X 0 0 _ k c k _ (Nat.zero_add _).symm (Nat.add_comm c.val 0)
  | ⟨1, _⟩ => ld_at X 0 1024 _ k c k _ (Nat.zero_add _).symm (Nat.add_comm c.val 1024)
  | ⟨2, _⟩ => ld_at X 0 2048 _ k c k _ (Nat.zero_add _).symm (Nat.add_comm c.val 2048)
  | ⟨3, _⟩ => ld_at X 0 3072 _ k c k _ (Nat.zero_add _).symm (Nat.add_comm c.val 3072)

/-- The four quarters of the rows of the second feed-forward matrix, read at a place. -/
theorem w2_pieces (X : S4096x1024.Idx → Elt Ideal e) (q : Fin 4) (c k : Fin 1024) :
    (![View.ld X r0_28, View.ld X r0_30, View.ld X r0_32, View.ld X r0_33] : Fin 4 → S1024x1024.Idx → Elt Ideal e) q (ix2 c k)
      = X (ix2 (finProdFinEquiv (m := 4) (n := 1024) (q, c)) k) :=
  match q with
  | ⟨0, _⟩ => ld_at X 0 0 _ c k _ k (Nat.add_comm c.val 0) (Nat.zero_add _).symm
  | ⟨1, _⟩ => ld_at X 1024 0 _ c k _ k (Nat.add_comm c.val 1024) (Nat.zero_add _).symm
  | ⟨2, _⟩ => ld_at X 2048 0 _ c k _ k (Nat.add_comm c.val 2048) (Nat.zero_add _).symm
  | ⟨3, _⟩ => ld_at X 3072 0 _ c k _ k (Nat.add_comm c.val 3072) (Nat.zero_add _).symm

/-- A row of the four heads of a block's rows from row `a` on. -/
theorem heads (X : S512x1024.Idx → Elt Ideal e) (a : ℕ) (i0 i1 i2 i3) (R : Fin 512) (r : Fin 256) (hR : R.val = a + r.val) (h : Fin 4) :
    (fun c => (![View.ld X (Rect.unit (s := S512x1024) ![a, 0] S256x256.size i0), View.ld X (Rect.unit (s := S512x1024) ![a, 256] S256x256.size i1),
      View.ld X (Rect.unit (s := S512x1024) ![a, 512] S256x256.size i2), View.ld X (Rect.unit (s := S512x1024) ![a, 768] S256x256.size i3)]
      : Fin 4 → S256x256.Idx → Elt Ideal e) h (ix2 r c)) = fun c => X (ix2 R (finProdFinEquiv (m := 4) (n := 256) (h, c))) :=
  funext fun c => match h with
  | ⟨0, _⟩ => ld_at X a 0 i0 r c R _ hR (Nat.add_comm c.val 0)
  | ⟨1, _⟩ => ld_at X a 256 i1 r c R _ hR (Nat.add_comm c.val 256)
  | ⟨2, _⟩ => ld_at X a 512 i2 r c R _ hR (Nat.add_comm c.val 512)
  | ⟨3, _⟩ => ld_at X a 768 i3 r c R _ hR (Nat.add_comm c.val 768)

/-- A whole row read through a rectangle of full width. -/
theorem row_ld {M N m : ℕ} (X : (⟨2, ![M, N]⟩ : Shape).Idx → EReal) (a : ℕ)
    (inb : ∀ k, (![a, 0] : Fin 2 → ℕ) k + (![m, N] : Fin 2 → ℕ) k ≤ (⟨2, ![M, N]⟩ : Shape).size k) (r : Fin m) (R : Fin M)
    (hR : R.val = a + r.val) :
    row (View.ld (Val := Elt Ideal) (e' := .f32) X (Rect.unit (s := ⟨2, ![M, N]⟩) ![a, 0] ![m, N] inb)) r = fun k => X (ix2 R k) :=
  funext fun c => ld_at (e := .f32) X a 0 inb r c R c hR (Nat.zero_add _).symm

/-- A block of columns from column `b` on. -/
theorem cols_ld {M N n : ℕ} (X : (⟨2, ![M, N]⟩ : Shape).Idx → EReal) (b : ℕ)
    (inb : ∀ k, (![0, b] : Fin 2 → ℕ) k + (![M, n] : Fin 2 → ℕ) k ≤ (⟨2, ![M, N]⟩ : Shape).size k) (C : Fin n → Fin N)
    (hC : ∀ c, (C c).val = b + c.val) :
    row (View.ld (Val := Elt Ideal) (e' := .f32) X (Rect.unit (s := ⟨2, ![M, N]⟩) ![0, b] ![M, n] inb)) = fun k c => X (ix2 k (C c)) :=
  funext fun k => funext fun c => ld_at (e := .f32) X 0 b inb k c k (C c) (Nat.zero_add _).symm (hC c)

end Pieces

/-- Each row of what the kernel leaves in the result's block is the dense part's function of the same row of its input
    blocks, with the weights its weight blocks hold. -/
theorem out_row (x0 : Vec Ideal S512x1024 .f32) (x1 : Vec Ideal S512x1024 .bf16) (x2 : Vec Ideal S512x1024 .bf16) (x3 : Vec Ideal S512x1024 .bf16) (x4 : Vec Ideal S512x512 .bf16) (x5 : Vec Ideal S1x1024 .f32) (x6 : Vec Ideal S1x256 .f32) (x7 : Vec Ideal S1x1024 .f32) (x8 : Vec Ideal S1x1024 .f32) (x9 : Vec Ideal S1024x1024 .bf16) (x10 : Vec Ideal S1024x2048 .bf16) (x11 : Vec Ideal S1024x1024 .bf16) (x12 : Vec Ideal S512x1024 .bf16) (x13 : Vec Ideal S1024x1024 .bf16) (x14 : Vec Ideal S1024x4096 .bf16) (x15 : Vec Ideal S4096x1024 .bf16)
    (R : Fin 512) (j : Fin 1024) :
    out0_16 x0 x1 x2 x3 x4 x5 x6 x7 x8 x9 x10 x11 x12 x13 x14 x15 (ix2 R j)
      = Row.tail (weights x5 x6 x7 x8 x9 x10 x11 x12 x13 x14 x15) (fun k => x0 (ix2 R k)) (fun k => x1 (ix2 R k))
          (fun k => x2 (ix2 R k)) (fun k => x3 (ix2 R k)) (fun k => x4 (ix2 R k)) j := by
  rw [out_eq]
  refine View.canon_eq_of_allAt _ _ _ (cover0_16 _ _ _)
    (View.allAt_cons_unit _ _ _ _ _ ?_ (View.allAt_cons_unit _ _ _ _ _ ?_ (View.allAt_nil _ _)))
  all_goals
    intro y hy
    obtain ⟨r, c, rfl⟩ : ∃ (r : Fin 256) (c : Fin 1024), y = ix2 r c := ⟨y 0, y 1, eq_ix2 y⟩
    have hR := hy 0
    obtain rfl : j = c := Fin.ext ((hy 1).trans (Nat.zero_add _))
    refine (congrFun (row_tailB (W := weights x5 x6 x7 x8 x9 x10 x11 x12 x13 x14 x15) _ _ _ _ _ r
      (row_ld x7 0 _ 0 0 rfl) (row_ld x8 0 _ 0 0 rfl) (w1_pieces x14) (w2_pieces x15)) j).trans ?_
    refine congrArg (fun v => Row.rms Row.len1024 (Row.ffn (weights x5 x6 x7 x8 x9 x10 x11 x12 x13 x14 x15) v) _ j) ((row_mixedB (W := weights x5 x6 x7 x8 x9 x10 x11 x12 x13 x14 x15) _ _ _ _ _ _ _ _ _ _ _ _ _ r
      (fun k => x1 (ix2 R k)) (fun k => x2 (ix2 R k)) (fun k => x3 (ix2 R k))
      (heads x1 _ _ _ _ _ R r hR) (heads x2 _ _ _ _ _ R r hR) (heads x3 _ _ _ _ _ R r hR) (row_ld x5 0 _ 0 0 rfl)
      (row_ld x6 0 _ 0 0 rfl) (wg_pieces x9)
      (cols_ld x10 0 _ (fun c => ⟨c.val, by omega⟩) fun _ => (Nat.zero_add _).symm)
      (cols_ld x10 1024 _ (fun c => ⟨1024 + c.val, by omega⟩) fun _ => rfl)
      (wo_pieces x11) (funext fun k => row_ld x12 0 _ k k (Nat.zero_add _).symm)
      (funext fun k => row_ld x13 0 _ k k (Nat.zero_add _).symm)).trans ?_)
    exact congrArg₂ (fun x y => Row.mixed (weights x5 x6 x7 x8 x9 x10 x11 x12 x13 x14 x15) x (fun k => x1 (ix2 R k)) (fun k => x2 (ix2 R k)) (fun k => x3 (ix2 R k)) y) (row_ld x0 _ _ r R hR) (row_ld x4 _ _ r R hR)

end Cert.Tail
-- ==== Proof.TailSpec.lean ====
/-
  The layer's dense part as one function of its argument arrays: `result` at row `8192 * b + t` is `Row.tail` of token `t` of
  sequence `b`. Both programs are shown to compute it, the kernel in `TailValue.lean` and the reference in `TailRef.lean`.
-/
module

public import proofs.«01_k».proof.Proof.RowMath
public import Idealize.ShloMosaic.Lib.Pointwise

@[expose] public section

noncomputable section

namespace Cert.Tail

open Idealize.ShloMosaic

/-- An array of extended reals. -/
abbrev Arr (r : ℕ) (d : Fin r → ℕ) : Type := Vec Ideal ⟨r, d⟩ .f32

section Spec

variable (x0 x1 x2 x3 : Arr 3 ![2, 8192, 1024]) (x4 : Arr 3 ![2, 8192, 512]) (x5 : Arr 2 ![1, 1024]) (x6 : Arr 3 ![1, 1024, 5664])
  (x7 : Arr 2 ![1, 256]) (x8 : Arr 3 ![1, 1024, 1024]) (x9 : Arr 3 ![1, 512, 1024]) (x10 : Arr 3 ![1, 1024, 1024]) (x11 : Arr 2 ![1, 1024])
  (x12 : Arr 3 ![1, 1024, 4096]) (x13 : Arr 3 ![1, 4096, 1024]) (x14 : Arr 1 ![1024])

/-- The weights as the argument arrays hold them: the attention's gate is read at columns 2048 to 3071 of the input
    projection, the two merge gates at 3616 to 4639 and at 4640 to 5663. -/
def argWeights : Row.Weights where
  nmix := fun j => x5 (ix2 (0 : Fin 1) j)
  gn := fun j => x7 (ix2 (0 : Fin 1) j)
  nffn := fun j => x11 (ix2 (0 : Fin 1) j)
  nfin := fun j => x14 (ix1 j)
  wg := fun k j => x6 (ix3 (0 : Fin 1) k (⟨2048 + j.val, by omega⟩ : Fin 5664))
  wa := fun k j => x6 (ix3 (0 : Fin 1) k (⟨3616 + j.val, by omega⟩ : Fin 5664))
  wb := fun k j => x6 (ix3 (0 : Fin 1) k (⟨4640 + j.val, by omega⟩ : Fin 5664))
  wo := fun k j => x8 (ix3 (0 : Fin 1) k j)
  wf := fun k j => x9 (ix3 (0 : Fin 1) k j)
  wout := fun k j => x10 (ix3 (0 : Fin 1) k j)
  w1 := fun k j => x12 (ix3 (0 : Fin 1) k j)
  w2 := fun k j => x13 (ix3 (0 : Fin 1) k j)

/-- The result's row of token `t` of sequence `b`. -/
def token (b : Fin 2) (t : Fin 8192) : Fin 1024 → EReal :=
  Row.tail (argWeights x5 x6 x7 x8 x9 x10 x11 x12 x13 x14) (fun k => x0 (ix3 b t k)) (fun k => x1 (ix3 b t k)) (fun k => x2 (ix3 b t k))
    (fun k => x3 (ix3 b t k)) (fun k => x4 (ix3 b t k))

/-- The sequence a row of the result belongs to. -/
def seqOf (r : Fin 16384) : Fin 2 := ⟨r.val / 8192, by omega⟩

/-- The token of its sequence a row of the result belongs to. -/
def tokOf (r : Fin 16384) : Fin 8192 := ⟨r.val % 8192, by omega⟩

/-- The whole result. -/
def result : Arr 2 ![16384, 1024] := fun i =>
  token x0 x1 x2 x3 x4 x5 x6 x7 x8 x9 x10 x11 x12 x13 x14 (seqOf (i 0)) (tokOf (i 0)) (i 1)

end Spec

end Cert.Tail
-- ==== Proof.TailValue.lean ====
/-
  The dense part's kernel over its whole grid: each row of the result array is `Row.tail` of the same row of the argument
  arrays. The host's reshapes, slices and casts in front of the kernel are read index by index, the blocks of each grid
  point are placed in those arrays, and `TailTile.lean` gives what a grid point computes.
-/
module

public import proofs.«01_k».proof.Proof.TailTile
public import proofs.«01_k».proof.Proof.TailSpec
public import Idealize.ShloMosaic.Lib.Pipeline.ValueKit
public import Idealize.ShloMosaic.Lib.StableHlo.ReadAt

@[expose] public section

noncomputable section

namespace Cert.Tail

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-! ## The arrays the host hands the kernel, index by index -/

/-- The residual stream's rows. -/
theorem resid_at (r : Fin 16384) (k : Fin 1024) :
    V m c main_v19 (ix2 r k) = m ((c : Thread nD τ).loc main_arg0) (ix3 (seqOf r) (tokOf r) k) := by
  unfold V; after_reads_at; rfl

/-- The rows of the attention's part within chunks. -/
theorem local_at (r : Fin 16384) (k : Fin 1024) :
    V m c main_v21 (ix2 r k) = m ((c : Thread nD τ).loc main_arg1) (ix3 (seqOf r) (tokOf r) k) := by
  unfold V; after_reads_at; rfl

/-- The rows of the attention's forward part. -/
theorem fwd_at (r : Fin 16384) (k : Fin 1024) :
    V m c main_v23 (ix2 r k) = m ((c : Thread nD τ).loc main_arg2) (ix3 (seqOf r) (tokOf r) k) := by
  unfold V; after_reads_at; rfl

/-- The rows of the attention's backward part. -/
theorem bwd_at (r : Fin 16384) (k : Fin 1024) :
    V m c main_v25 (ix2 r k) = m ((c : Thread nD τ).loc main_arg3) (ix3 (seqOf r) (tokOf r) k) := by
  unfold V; after_reads_at; rfl

/-- The Fourier branch's rows, the two sequences side by side. -/
theorem y_at (b : Fin 2) (t : Fin 8192) (k : Fin 512) (C : Fin 1024) (hC : C.val = 512 * b.val + k.val) :
    V m c main_v8 (ix2 t C) = m ((c : Thread nD τ).loc main_arg4) (ix3 b t k) := by
  have e : (ix3 (⟨C.val / 512, by omega⟩ : Fin 2) t (⟨C.val % 512, Nat.mod_lt _ (by decide)⟩ : Fin 512)) = ix3 b t k := by
    congr 1
    · exact Fin.ext (by show C.val / 512 = b.val; omega)
    · exact Fin.ext (by show C.val % 512 = k.val; omega)
  refine Eq.trans ?_ (congrArg (m ((c : Thread nD τ).loc main_arg4)) e)
  unfold V; after_reads_at

/-- The scale of the mixer's normalisation. -/
theorem nmix_at (j : Fin 1024) : V m c main_v27 (ix2 (0 : Fin 1) j) = m ((c : Thread nD τ).loc main_arg5) (ix2 (0 : Fin 1) j) := by
  unfold V; after_reads_at

/-- The scale of the head normalisation. -/
theorem gn_at (j : Fin 256) : V m c main_v29 (ix2 (0 : Fin 1) j) = m ((c : Thread nD τ).loc main_arg7) (ix2 (0 : Fin 1) j) := by
  unfold V; after_reads_at

/-- The scale of the feed-forward normalisation. -/
theorem nffn_at (j : Fin 1024) : V m c main_v31 (ix2 (0 : Fin 1) j) = m ((c : Thread nD τ).loc main_arg11) (ix2 (0 : Fin 1) j) := by
  unfold V; after_reads_at

/-- The scale of the final normalisation. -/
theorem nfin_at (j : Fin 1024) : V m c main_v32 (ix2 (0 : Fin 1) j) = m ((c : Thread nD τ).loc main_arg14) (ix1 j) := by
  unfold V; after_reads_at

/-- The columns of the input projection up to the merge gates. -/
theorem win_at (k : Fin 1024) (j : Fin 4096) :
    V m c main_v2 (ix2 k j) = m ((c : Thread nD τ).loc main_arg6) (ix3 (0 : Fin 1) k (⟨j.val, by omega⟩ : Fin 5664)) := by
  unfold V; after_reads_at

/-- The columns of the input projection of the merge gates. -/
theorem wmerge_at (k : Fin 1024) (j : Fin 2048) :
    V m c main_v5 (ix2 k j) = m ((c : Thread nD τ).loc main_arg6) (ix3 (0 : Fin 1) k (⟨3616 + j.val, by omega⟩ : Fin 5664)) := by
  unfold V; after_reads_at

/-- The attention's output projection. -/
theorem wo_at (k j : Fin 1024) : V m c main_v10 (ix2 k j) = m ((c : Thread nD τ).loc main_arg8) (ix3 (0 : Fin 1) k j) := by
  unfold V; after_reads_at

/-- The Fourier branch's output projection. -/
theorem wf_at (k : Fin 512) (j : Fin 1024) : V m c main_v12 (ix2 k j) = m ((c : Thread nD τ).loc main_arg9) (ix3 (0 : Fin 1) k j) := by
  unfold V; after_reads_at

/-- The projection of the merged branches. -/
theorem wout_at (k j : Fin 1024) : V m c main_v14 (ix2 k j) = m ((c : Thread nD τ).loc main_arg10) (ix3 (0 : Fin 1) k j) := by
  unfold V; after_reads_at

/-- The first feed-forward matrix. -/
theorem w1_at (k : Fin 1024) (j : Fin 4096) : V m c main_v16 (ix2 k j) = m ((c : Thread nD τ).loc main_arg12) (ix3 (0 : Fin 1) k j) := by
  unfold V; after_reads_at

/-- The second feed-forward matrix. -/
theorem w2_at (k : Fin 4096) (j : Fin 1024) : V m c main_v18 (ix2 k j) = m ((c : Thread nD τ).loc main_arg13) (ix3 (0 : Fin 1) k j) := by
  unfold V; after_reads_at

/-! ## The blocks of a grid point -/

/-- The block index of every window at a grid point: the row windows move with the point, the Fourier branch's window
    runs down one sequence and then the other, the weights stay. -/
theorem block_index : ∀ t : Fin cfg0.N,
    (win0_0.index t = ![t.val, 0] ∧ win0_1.index t = ![t.val, 0] ∧ win0_2.index t = ![t.val, 0] ∧ win0_3.index t = ![t.val, 0]
      ∧ win0_4.index t = ![t.val % 16, t.val / 16] ∧ win0_16.index t = ![t.val, 0])
    ∧ win0_5.index t = ![0, 0] ∧ win0_6.index t = ![0, 0] ∧ win0_7.index t = ![0, 0] ∧ win0_8.index t = ![0, 0]
      ∧ win0_9.index t = ![0, 2] ∧ win0_10.index t = ![0, 0] ∧ win0_11.index t = ![0, 0] ∧ win0_12.index t = ![0, 0]
      ∧ win0_13.index t = ![0, 0] ∧ win0_14.index t = ![0, 0] ∧ win0_15.index t = ![0, 0] :=
  (by decide +kernel : ∀ t : Fin grid0.N,
    (win0_0.index t = ![t.val, 0] ∧ win0_1.index t = ![t.val, 0] ∧ win0_2.index t = ![t.val, 0] ∧ win0_3.index t = ![t.val, 0]
      ∧ win0_4.index t = ![t.val % 16, t.val / 16] ∧ win0_16.index t = ![t.val, 0])
    ∧ win0_5.index t = ![0, 0] ∧ win0_6.index t = ![0, 0] ∧ win0_7.index t = ![0, 0] ∧ win0_8.index t = ![0, 0]
      ∧ win0_9.index t = ![0, 2] ∧ win0_10.index t = ![0, 0] ∧ win0_11.index t = ![0, 0] ∧ win0_12.index t = ![0, 0]
      ∧ win0_13.index t = ![0, 0] ∧ win0_14.index t = ![0, 0] ∧ win0_15.index t = ![0, 0])

/-- A row window at a grid point, read at row `R` of its block: row `512 t + R` of the residual stream. -/
theorem blk0 (t : Fin cfg0.N) (R : Fin 512) (k : Fin 1024) (r : Fin 16384) (hr : r.val = 512 * t.val + R.val) :
    iblk m c 0 t (ix2 R k) = m ((c : Thread nD τ).loc main_arg0) (ix3 (seqOf r) (tokOf r) k) := by
  have e := (block_index t).1.1
  refine Eq.trans ?_ (resid_at m c r k)
  blk_simp [iblk]
  refine congrArg (V m c main_v19) ?_
  blk_ext [e]

/-- The same row of the attention's part within chunks. -/
theorem blk1 (t : Fin cfg0.N) (R : Fin 512) (k : Fin 1024) (r : Fin 16384) (hr : r.val = 512 * t.val + R.val) :
    iblk m c 1 t (ix2 R k) = m ((c : Thread nD τ).loc main_arg1) (ix3 (seqOf r) (tokOf r) k) := by
  have e := (block_index t).1.2.1
  refine Eq.trans ?_ (local_at m c r k)
  blk_simp [iblk]
  refine congrArg (V m c main_v21) ?_
  blk_ext [e]

/-- The same row of the attention's forward part. -/
theorem blk2 (t : Fin cfg0.N) (R : Fin 512) (k : Fin 1024) (r : Fin 16384) (hr : r.val = 512 * t.val + R.val) :
    iblk m c 2 t (ix2 R k) = m ((c : Thread nD τ).loc main_arg2) (ix3 (seqOf r) (tokOf r) k) := by
  have e := (block_index t).1.2.2.1
  refine Eq.trans ?_ (fwd_at m c r k)
  blk_simp [iblk]
  refine congrArg (V m c main_v23) ?_
  blk_ext [e]

/-- The same row of the attention's backward part. -/
theorem blk3 (t : Fin cfg0.N) (R : Fin 512) (k : Fin 1024) (r : Fin 16384) (hr : r.val = 512 * t.val + R.val) :
    iblk m c 3 t (ix2 R k) = m ((c : Thread nD τ).loc main_arg3) (ix3 (seqOf r) (tokOf r) k) := by
  have e := (block_index t).1.2.2.2.1
  refine Eq.trans ?_ (bwd_at m c r k)
  blk_simp [iblk]
  refine congrArg (V m c main_v25) ?_
  blk_ext [e]

/-- The same row of the Fourier branch. -/
theorem blk4 (t : Fin cfg0.N) (R : Fin 512) (k : Fin 512) (r : Fin 16384) (hr : r.val = 512 * t.val + R.val) :
    iblk m c 4 t (ix2 R k) = m ((c : Thread nD τ).loc main_arg4) (ix3 (seqOf r) (tokOf r) k) := by
  have e := (block_index t).1.2.2.2.2.1
  have ht : t.val < 32 := t.isLt
  refine Eq.trans ?_ (y_at m c (seqOf r) (tokOf r) k ⟨512 * (r.val / 8192) + k.val, by omega⟩ rfl)
  blk_simp [iblk]
  refine congrArg (V m c main_v8) ?_
  have h0 : t.val % 16 * 512 + R.val = r.val % 8192 := by omega
  have h1 : t.val / 16 * 512 + k.val = 512 * (r.val / 8192) + k.val := by omega
  funext a; apply Fin.ext
  match a with
  | ⟨0, _⟩ => blk_simp [e]; exact h0
  | ⟨1, _⟩ => blk_simp [e]; exact h1

/-- A grid point's block of the mixer's normalisation scale. -/
theorem blk5 (t : Fin cfg0.N) (j : Fin 1024) : iblk m c 5 t (ix2 (0 : Fin 1) j) = m ((c : Thread nD τ).loc main_arg5) (ix2 (0 : Fin 1) j) := by
  have e := (block_index t).2.1
  refine Eq.trans ?_ (nmix_at m c j)
  blk_simp [iblk]
  refine congrArg (V m c main_v27) ?_
  blk_ext [e]

/-- A grid point's block of the head normalisation's scale. -/
theorem blk6 (t : Fin cfg0.N) (j : Fin 256) : iblk m c 6 t (ix2 (0 : Fin 1) j) = m ((c : Thread nD τ).loc main_arg7) (ix2 (0 : Fin 1) j) := by
  have e := (block_index t).2.2.1
  refine Eq.trans ?_ (gn_at m c j)
  blk_simp [iblk]
  refine congrArg (V m c main_v29) ?_
  blk_ext [e]

/-- A grid point's block of the feed-forward normalisation's scale. -/
theorem blk7 (t : Fin cfg0.N) (j : Fin 1024) : iblk m c 7 t (ix2 (0 : Fin 1) j) = m ((c : Thread nD τ).loc main_arg11) (ix2 (0 : Fin 1) j) := by
  have e := (block_index t).2.2.2.1
  refine Eq.trans ?_ (nffn_at m c j)
  blk_simp [iblk]
  refine congrArg (V m c main_v31) ?_
  blk_ext [e]

/-- A grid point's block of the final normalisation's scale. -/
theorem blk8 (t : Fin cfg0.N) (j : Fin 1024) : iblk m c 8 t (ix2 (0 : Fin 1) j) = m ((c : Thread nD τ).loc main_arg14) (ix1 j) := by
  have e := (block_index t).2.2.2.2.1
  refine Eq.trans ?_ (nfin_at m c j)
  blk_simp [iblk]
  refine congrArg (V m c main_v32) ?_
  blk_ext [e]

/-- A grid point's block of the attention gate's projection. -/
theorem blk9 (t : Fin cfg0.N) (k j : Fin 1024) : iblk m c 9 t (ix2 k j) = m ((c : Thread nD τ).loc main_arg6) (ix3 (0 : Fin 1) k (⟨2048 + j.val, by omega⟩ : Fin 5664)) := by
  have e := (block_index t).2.2.2.2.2.1
  refine Eq.trans ?_ (win_at m c k ⟨2048 + j.val, by omega⟩)
  blk_simp [iblk]
  refine congrArg (V m c main_v2) ?_
  blk_ext [e]

/-- A grid point's block of the merge gates' projections. -/
theorem blk10 (t : Fin cfg0.N) (k : Fin 1024) (j : Fin 2048) : iblk m c 10 t (ix2 k j) = m ((c : Thread nD τ).loc main_arg6) (ix3 (0 : Fin 1) k (⟨3616 + j.val, by omega⟩ : Fin 5664)) := by
  have e := (block_index t).2.2.2.2.2.2.1
  refine Eq.trans ?_ (wmerge_at m c k j)
  blk_simp [iblk]
  refine congrArg (V m c main_v5) ?_
  blk_ext [e]

/-- A grid point's block of the attention's output projection. -/
theorem blk11 (t : Fin cfg0.N) (k j : Fin 1024) : iblk m c 11 t (ix2 k j) = m ((c : Thread nD τ).loc main_arg8) (ix3 (0 : Fin 1) k j) := by
  have e := (block_index t).2.2.2.2.2.2.2.1
  refine Eq.trans ?_ (wo_at m c k j)
  blk_simp [iblk]
  refine congrArg (V m c main_v10) ?_
  blk_ext [e]

/-- A grid point's block of the Fourier branch's output projection. -/
theorem blk12 (t : Fin cfg0.N) (k : Fin 512) (j : Fin 1024) : iblk m c 12 t (ix2 k j) = m ((c : Thread nD τ).loc main_arg9) (ix3 (0 : Fin 1) k j) := by
  have e := (block_index t).2.2.2.2.2.2.2.2.1
  refine Eq.trans ?_ (wf_at m c k j)
  blk_simp [iblk]
  refine congrArg (V m c main_v12) ?_
  blk_ext [e]

/-- A grid point's block of the merged branches' projection. -/
theorem blk13 (t : Fin cfg0.N) (k j : Fin 1024) : iblk m c 13 t (ix2 k j) = m ((c : Thread nD τ).loc main_arg10) (ix3 (0 : Fin 1) k j) := by
  have e := (block_index t).2.2.2.2.2.2.2.2.2.1
  refine Eq.trans ?_ (wout_at m c k j)
  blk_simp [iblk]
  refine congrArg (V m c main_v14) ?_
  blk_ext [e]

/-- A grid point's block of the first feed-forward matrix. -/
theorem blk14 (t : Fin cfg0.N) (k : Fin 1024) (j : Fin 4096) : iblk m c 14 t (ix2 k j) = m ((c : Thread nD τ).loc main_arg12) (ix3 (0 : Fin 1) k j) := by
  have e := (block_index t).2.2.2.2.2.2.2.2.2.2.1
  refine Eq.trans ?_ (w1_at m c k j)
  blk_simp [iblk]
  refine congrArg (V m c main_v16) ?_
  blk_ext [e]

/-- A grid point's block of the second feed-forward matrix. -/
theorem blk15 (t : Fin cfg0.N) (k : Fin 4096) (j : Fin 1024) : iblk m c 15 t (ix2 k j) = m ((c : Thread nD τ).loc main_arg13) (ix3 (0 : Fin 1) k j) := by
  have e := (block_index t).2.2.2.2.2.2.2.2.2.2.2
  refine Eq.trans ?_ (w2_at m c k j)
  blk_simp [iblk]
  refine congrArg (V m c main_v18) ?_
  blk_ext [e]

/-- The weights a grid point holds are the weights of the argument arrays. -/
theorem weights_eq (t : Fin cfg0.N) :
    weights (iblk m c 5 t) (iblk m c 6 t) (iblk m c 7 t) (iblk m c 8 t) (iblk m c 9 t) (iblk m c 10 t) (iblk m c 11 t) (iblk m c 12 t)
      (iblk m c 13 t) (iblk m c 14 t) (iblk m c 15 t)
    = argWeights (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) := by
  have hwb : ∀ (k j : Fin 1024), iblk m c 10 t (ix2 k (⟨1024 + j.val, by omega⟩ : Fin 2048))
      = m ((c : Thread nD τ).loc main_arg6) (ix3 (0 : Fin 1) k (⟨4640 + j.val, by omega⟩ : Fin 5664)) := fun k j =>
    (blk10 m c t k ⟨1024 + j.val, by omega⟩).trans (congrArg (m ((c : Thread nD τ).loc main_arg6))
      (congrArg (ix3 (0 : Fin 1) k) (Fin.ext (by show 3616 + (1024 + j.val) = 4640 + j.val; omega))))
  unfold weights argWeights
  rw [Row.Weights.mk.injEq]
  exact ⟨funext fun j => blk5 m c t j, funext fun j => blk6 m c t j, funext fun j => blk7 m c t j, funext fun j => blk8 m c t j,
    funext fun k => funext fun j => blk9 m c t k j, funext fun k => funext fun j => blk10 m c t k ⟨j.val, by omega⟩,
    funext fun k => funext fun j => hwb k j, funext fun k => funext fun j => blk11 m c t k j, funext fun k => funext fun j => blk12 m c t k j,
    funext fun k => funext fun j => blk13 m c t k j, funext fun k => funext fun j => blk14 m c t k j,
    funext fun k => funext fun j => blk15 m c t k j⟩

/-! ## The result -/

/-- The kernel's result array is the dense part's function of the argument arrays. -/
theorem final (c : Dev nD) : (dats m 0 c).arrAt 16 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) := by
  refine (dats m 0 c).arrAt_eq_of_covers 16 _ (by decide +kernel) fun t _ y => ?_
  have ht : t.val < 32 := t.isLt
  have e := (block_index t).1.2.2.2.2.2
  blk_simp
  rw [after0_16]
  obtain ⟨R, j, rfl⟩ : ∃ (R : Fin 512) (j : Fin 1024), y = ix2 R j := ⟨y 0, y 1, eq_ix2 y⟩
  have he : (win0_16.blk t).view.emb (ix2 R j) = ix2 (⟨512 * t.val + R.val, by omega⟩ : Fin 16384) j := by blk_ext [e]
  rw [he]
  refine (out_row _ _ _ _ _ _ _ _ _ _ _ _ _ _ _ _ R j).trans ?_
  rw [weights_eq]
  have h0 : (fun k => iblk m c 0 t (ix2 R k)) = _ := funext fun k => blk0 m c t R k ⟨512 * t.val + R.val, by omega⟩ rfl
  have h1 : (fun k => iblk m c 1 t (ix2 R k)) = _ := funext fun k => blk1 m c t R k ⟨512 * t.val + R.val, by omega⟩ rfl
  have h2 : (fun k => iblk m c 2 t (ix2 R k)) = _ := funext fun k => blk2 m c t R k ⟨512 * t.val + R.val, by omega⟩ rfl
  have h3 : (fun k => iblk m c 3 t (ix2 R k)) = _ := funext fun k => blk3 m c t R k ⟨512 * t.val + R.val, by omega⟩ rfl
  have h4 : (fun k => iblk m c 4 t (ix2 R k)) = _ := funext fun k => blk4 m c t R k ⟨512 * t.val + R.val, by omega⟩ rfl
  show Row.tail _ (fun k => iblk m c 0 t (ix2 R k)) (fun k => iblk m c 1 t (ix2 R k)) (fun k => iblk m c 2 t (ix2 R k))
    (fun k => iblk m c 3 t (ix2 R k)) (fun k => iblk m c 4 t (ix2 R k)) j = _
  rw [h0, h1, h2, h3, h4]
  rfl

end Cert.Tail
-- ==== Proof.TailRef.lean ====
/-
  The dense part's reference, read at an index: its result is `Row.tail` of the argument arrays' rows. Each stage of the
  reference's program is read at token `t` of sequence `b` from the stages before it.
-/
module

public import proofs.«01_k».proof.Proof.TailSpec
public import proofs.«01_k».proof.Proof.Gen.Reference2Ideal.Read

@[expose] public section

noncomputable section

namespace Cert.Tail

open Cert.Reference2Ideal Cert.Reference2Ideal.Gen Cert.Reference2Ideal.Read Idealize.ShloMosaic Idealize.ShloMosaic.TcCoe Idealize.SL.Sem

/-- An index of an array of rank three is the triple of its coordinates. -/
theorem to3 {A B C : ℕ} (i : (⟨3, ![A, B, C]⟩ : Shape).Idx) (a : Fin A) (b : Fin B) (c : Fin C)
    (h0 : (i 0).val = a.val) (h1 : (i 1).val = b.val) (h2 : (i 2).val = c.val) : i = ix3 a b c := by
  funext k; apply Fin.ext
  match k with
  | ⟨0, _⟩ => exact h0
  | ⟨1, _⟩ => exact h1
  | ⟨2, _⟩ => exact h2

/-- An index of a matrix is the pair of its coordinates. -/
theorem to2 {A B : ℕ} (i : (⟨2, ![A, B]⟩ : Shape).Idx) (a : Fin A) (b : Fin B)
    (h0 : (i 0).val = a.val) (h1 : (i 1).val = b.val) : i = ix2 a b := by
  funext k; apply Fin.ext
  match k with
  | ⟨0, _⟩ => exact h0
  | ⟨1, _⟩ => exact h1

/-- An index of a vector is its coordinate. -/
theorem to1 {A : ℕ} (i : (⟨1, ![A]⟩ : Shape).Idx) (a : Fin A) (h0 : (i 0).val = a.val) : i = ix1 a := by
  funext k; apply Fin.ext
  match k with
  | ⟨0, _⟩ => exact h0

/-- An index of an array of rank four is the quadruple of its coordinates. -/
theorem to4 {A B C D : ℕ} (i : (⟨4, ![A, B, C, D]⟩ : Shape).Idx) (a : Fin A) (b : Fin B) (c : Fin C) (d : Fin D)
    (h0 : (i 0).val = a.val) (h1 : (i 1).val = b.val) (h2 : (i 2).val = c.val) (h3 : (i 3).val = d.val) : i = ix4 a b c d := by
  funext k; apply Fin.ext
  match k with
  | ⟨0, _⟩ => exact h0
  | ⟨1, _⟩ => exact h1
  | ⟨2, _⟩ => exact h2
  | ⟨3, _⟩ => exact h3

/-- The zero a sum starts from, as the program prints it. -/
theorem zero_word : FloatOps.ofBits (F := Ideal) .f32 0x00000000#32 = (0 : EReal) := IdealRules.sign_bit.ideal_zero .f32

section Stages

variable (x0 x1 x2 x3 : (⟨S2x8192x1024, .f32⟩ : BufTy).Contents (Elt Ideal)) (x4 : (⟨S2x8192x512, .f32⟩ : BufTy).Contents (Elt Ideal))
  (x5 : (⟨S1x1024, .f32⟩ : BufTy).Contents (Elt Ideal))
  (x6 : (⟨S1x1024x5664, .f32⟩ : BufTy).Contents (Elt Ideal))
  (x7 : (⟨S1x256, .f32⟩ : BufTy).Contents (Elt Ideal))
  (x8 : (⟨S1x1024x1024, .f32⟩ : BufTy).Contents (Elt Ideal))
  (x9 : (⟨S1x512x1024, .f32⟩ : BufTy).Contents (Elt Ideal))
  (x10 : (⟨S1x1024x1024, .f32⟩ : BufTy).Contents (Elt Ideal))
  (x11 : (⟨S1x1024, .f32⟩ : BufTy).Contents (Elt Ideal))
  (x12 : (⟨S1x1024x4096, .f32⟩ : BufTy).Contents (Elt Ideal))
  (x13 : (⟨S1x4096x1024, .f32⟩ : BufTy).Contents (Elt Ideal))
  (x14 : (⟨S1024, .f32⟩ : BufTy).Contents (Elt Ideal))
  (b : Fin 2) (t : Fin 8192)

/-! ## The weight matrices -/

/-- The matrix of a product, read from its argument array. -/
theorem ref_win_at (k : Fin 1024) (j : Fin 5664) : val_main_v14 (F := Ideal) x6 (ix2 k j) = x6 (ix3 (0 : Fin 1) k j) := by
  rw [val_main_v14_apply]
  refine congrArg x6 (to3 _ _ _ _ rfl ?_ ?_)
  · show (k.val * 5664 + j.val) / 5664 % 1024 = k.val; omega
  · show (k.val * 5664 + j.val) % 5664 = j.val; omega

/-- The matrix of a product, read from its argument array. -/
theorem ref_wo_at (k : Fin 1024) (j : Fin 1024) : val_main_v39 (F := Ideal) x8 (ix2 k j) = x8 (ix3 (0 : Fin 1) k j) := by
  rw [val_main_v39_apply]
  refine congrArg x8 (to3 _ _ _ _ rfl ?_ ?_)
  · show (k.val * 1024 + j.val) / 1024 % 1024 = k.val; omega
  · show (k.val * 1024 + j.val) % 1024 = j.val; omega

/-- The matrix of a product, read from its argument array. -/
theorem ref_wf_at (k : Fin 512) (j : Fin 1024) : val_main_v41 (F := Ideal) x9 (ix2 k j) = x9 (ix3 (0 : Fin 1) k j) := by
  rw [val_main_v41_apply]
  refine congrArg x9 (to3 _ _ _ _ rfl ?_ ?_)
  · show (k.val * 1024 + j.val) / 1024 % 512 = k.val; omega
  · show (k.val * 1024 + j.val) % 1024 = j.val; omega

/-- The matrix of a product, read from its argument array. -/
theorem ref_wout_at (k : Fin 1024) (j : Fin 1024) : val_main_v58 (F := Ideal) x10 (ix2 k j) = x10 (ix3 (0 : Fin 1) k j) := by
  rw [val_main_v58_apply]
  refine congrArg x10 (to3 _ _ _ _ rfl ?_ ?_)
  · show (k.val * 1024 + j.val) / 1024 % 1024 = k.val; omega
  · show (k.val * 1024 + j.val) % 1024 = j.val; omega

/-- The matrix of a product, read from its argument array. -/
theorem ref_w1_at (k : Fin 1024) (j : Fin 4096) : val_main_v75 (F := Ideal) x12 (ix2 k j) = x12 (ix3 (0 : Fin 1) k j) := by
  rw [val_main_v75_apply]
  refine congrArg x12 (to3 _ _ _ _ rfl ?_ ?_)
  · show (k.val * 4096 + j.val) / 4096 % 1024 = k.val; omega
  · show (k.val * 4096 + j.val) % 4096 = j.val; omega

/-- The matrix of a product, read from its argument array. -/
theorem ref_w2_at (k : Fin 4096) (j : Fin 1024) : val_main_v79 (F := Ideal) x13 (ix2 k j) = x13 (ix3 (0 : Fin 1) k j) := by
  rw [val_main_v79_apply]
  refine congrArg x13 (to3 _ _ _ _ rfl ?_ ?_)
  · show (k.val * 1024 + j.val) / 1024 % 4096 = k.val; omega
  · show (k.val * 1024 + j.val) % 1024 = j.val; omega

/-! ## Normalisations -/

/-- The factor a row is normalised with: the inverse root of its mean square. -/
theorem ref_factor (x : (⟨S2x8192x1024, .f32⟩ : BufTy).Contents (Elt Ideal)) (k : Fin 1024) : val_main_v9 (F := Ideal) x (ix3 b t k)
    = Ideal.rsqrt (Ideal.div (∑ k : Fin 1024, x (ix3 b t k) * x (ix3 b t k)) Row.len1024 + Row.eps) := by
  rw [val_main_v9_apply, val_main_v8_apply, val_main_v7_apply, val_main_v5_apply, val_main_v3_apply, val_main_v2_apply]
  have e : ∀ j : Fin 1024, idx_main_v2 (idx_main_v3 (idx_main_v9 (ix3 b t k))) j = ix3 b t j := fun j => to3 _ _ _ _ rfl rfl rfl
  simp only [val_main_v1_apply, e, val_main_v4_apply, val_main_v6_apply, val_main_cst_apply, val_main_cst_0_apply, val_main_cst_1_apply]
  rw [zero_word, zero_add]
  rfl

/-- The normalised row scaled by a weight. -/
theorem ref_rms (x : (⟨S2x8192x1024, .f32⟩ : BufTy).Contents (Elt Ideal)) (g : (⟨S1x1024, .f32⟩ : BufTy).Contents (Elt Ideal)) (j : Fin 1024) :
    val_main_v13 (F := Ideal) x g (ix3 b t j) = Row.rms Row.len1024 (fun k => x (ix3 b t k)) (fun k => g (ix2 (0 : Fin 1) k)) j := by
  rw [val_main_v13_apply, val_main_v10_apply, ref_factor, val_main_v12_apply, val_main_v11_apply, val_main_v0_apply]
  rw [to2 (idx_main_v0 (idx_main_v11 (idx_main_v12 (ix3 b t j)))) (0 : Fin 1) j rfl (by show j.val % 1024 = j.val; omega)]
  rfl

/-! ## The gates -/

/-- A column of the input projection of the normalised row. -/
theorem ref_proj (j : Fin 5664) : val_main_v15 (F := Ideal) x0 x5 x6 (ix3 b t j) = ∑ k : Fin 1024, (Row.rms Row.len1024 (fun k => x0 (ix3 b t k)) (fun k => x5 (ix2 (0 : Fin 1) k))) k * x6 (ix3 (0 : Fin 1) k j) := by
  rw [val_main_v15_apply]
  refine Finset.sum_congr rfl fun k _ => ?_
  rw [to3 (lidx_main_v15 (ix3 b t j) k) b t k rfl rfl rfl, to2 (ridx_main_v15 (ix3 b t j) k) k j rfl rfl, ref_rms, ref_win_at]

/-- The attention gate's projection. -/
theorem ref_gate (j : Fin 1024) : val_main_v16 (F := Ideal) x0 x5 x6 (ix3 b t j) = Row.dot (Row.rms Row.len1024 (fun k => x0 (ix3 b t k)) (fun k => x5 (ix2 (0 : Fin 1) k))) (argWeights x5 x6 x7 x8 x9 x10 x11 x12 x13 x14).wg j := by
  rw [val_main_v16_apply, to3 (idx_main_v16 (ix3 b t j)) b t (⟨2048 + j.val, by omega⟩ : Fin 5664) rfl rfl rfl, ref_proj]
  rfl

/-- The attention gate: the projection times its logistic function. -/
theorem ref_silu (j : Fin 1024) : val_main_v37 (F := Ideal) x0 x5 x6 (ix3 b t j)
    = Row.dot (Row.rms Row.len1024 (fun k => x0 (ix3 b t k)) (fun k => x5 (ix2 (0 : Fin 1) k))) (argWeights x5 x6 x7 x8 x9 x10 x11 x12 x13 x14).wg j * Row.sigmoid (Row.dot (Row.rms Row.len1024 (fun k => x0 (ix3 b t k)) (fun k => x5 (ix2 (0 : Fin 1) k))) (argWeights x5 x6 x7 x8 x9 x10 x11 x12 x13 x14).wg j) := by
  rw [val_main_v37_apply, val_main_call0_v5_apply, val_main_call0_v3_apply, val_main_call0_v1_apply, val_main_call0_v0_apply,
    val_main_call0_v2_apply, val_main_call0_v4_apply, val_main_call0_cst_apply, val_main_call0_cst_0_apply, ref_gate x0 x5 x6 x7 x8 x9 x10 x11 x12 x13 x14]
  rfl

/-- The merge gate of the attention. -/
theorem ref_gateA (j : Fin 1024) : val_main_v48 (F := Ideal) x0 x5 x6 (ix3 b t j) = Row.sigmoid (Row.dot (Row.rms Row.len1024 (fun k => x0 (ix3 b t k)) (fun k => x5 (ix2 (0 : Fin 1) k))) (argWeights x5 x6 x7 x8 x9 x10 x11 x12 x13 x14).wa j) := by
  rw [val_main_v48_apply, val_main_v46_apply, val_main_v44_apply, val_main_v43_apply, val_main_v45_apply, val_main_v47_apply,
    val_main_cst_5_apply, val_main_cst_6_apply, val_main_v17_apply,
    to3 (idx_main_v17 (ix3 b t j)) b t (⟨3616 + j.val, by omega⟩ : Fin 5664) rfl rfl rfl, ref_proj]
  rfl

/-- The merge gate of the Fourier branch. -/
theorem ref_gateB (j : Fin 1024) : val_main_v55 (F := Ideal) x0 x5 x6 (ix3 b t j) = Row.sigmoid (Row.dot (Row.rms Row.len1024 (fun k => x0 (ix3 b t k)) (fun k => x5 (ix2 (0 : Fin 1) k))) (argWeights x5 x6 x7 x8 x9 x10 x11 x12 x13 x14).wb j) := by
  rw [val_main_v55_apply, val_main_v53_apply, val_main_v51_apply, val_main_v50_apply, val_main_v52_apply, val_main_v54_apply,
    val_main_cst_7_apply, val_main_cst_8_apply, val_main_v18_apply,
    to3 (idx_main_v18 (ix3 b t j)) b t (⟨4640 + j.val, by omega⟩ : Fin 5664) rfl rfl rfl, ref_proj]
  rfl

/-! ## The attention branch -/

/-- The attention's parts summed, cut into heads. -/
theorem ref_heads (h : Fin 4) (c : Fin 256) : val_main_v21 (F := Ideal) x1 x2 x3 (ix4 b t h c) = Row.headOf (fun j => x1 (ix3 b t j) + x2 (ix3 b t j) + x3 (ix3 b t j)) h c := by
  rw [val_main_v21_apply, to3 (idx_main_v21 (ix4 b t h c)) b t (finProdFinEquiv (m := 4) (n := 256) (h, c))
    (by show (((b.val * 8192 + t.val) * 4 + h.val) * 256 + c.val) / 8388608 = b.val; omega)
    (by show (((b.val * 8192 + t.val) * 4 + h.val) * 256 + c.val) / 1024 % 8192 = t.val; omega)
    (by show (((b.val * 8192 + t.val) * 4 + h.val) * 256 + c.val) % 1024 = c.val + 256 * h.val; omega),
    val_main_v20_apply, val_main_v19_apply]
  rfl

/-- A head normalised. -/
theorem ref_headRms (h : Fin 4) (c : Fin 256) : val_main_v35 (F := Ideal) x1 x2 x3 x7 (ix4 b t h c)
    = Row.rms Row.len256 (Row.headOf (fun j => x1 (ix3 b t j) + x2 (ix3 b t j) + x3 (ix3 b t j)) h) (fun c => x7 (ix2 (0 : Fin 1) c)) c := by
  have e : ∀ j : Fin 256, idx_main_v24 (idx_main_v25 (idx_main_v31 (ix4 b t h c))) j = ix4 b t h j := fun j => to4 _ _ _ _ _ rfl rfl rfl rfl
  have hs : val_main_v24 (F := Ideal) x1 x2 x3 (idx_main_v25 (idx_main_v31 (ix4 b t h c)))
      = ∑ k : Fin 256, Row.headOf (fun j => x1 (ix3 b t j) + x2 (ix3 b t j) + x3 (ix3 b t j)) h k * Row.headOf (fun j => x1 (ix3 b t j) + x2 (ix3 b t j) + x3 (ix3 b t j)) h k := by
    rw [val_main_v24_apply, val_main_cst_2_apply, zero_word, zero_add]
    refine Finset.sum_congr rfl fun k _ => ?_
    rw [e, val_main_v23_apply, ref_heads]
    rfl
  rw [val_main_v35_apply, val_main_v32_apply, val_main_v31_apply, val_main_v30_apply, val_main_v29_apply, val_main_v27_apply,
    val_main_v25_apply, hs, val_main_v26_apply, val_main_v28_apply, val_main_cst_3_apply, val_main_cst_4_apply, ref_heads,
    val_main_v34_apply, val_main_v33_apply, val_main_v22_apply,
    to2 (idx_main_v22 (idx_main_v33 (idx_main_v34 (ix4 b t h c)))) (0 : Fin 1) c rfl (by show c.val % 256 = c.val; omega)]
  rfl

/-- The heads normalised, side by side again. -/
theorem ref_headRow (j : Fin 1024) : val_main_v36 (F := Ideal) x1 x2 x3 x7 (ix3 b t j)
    = Row.headRms (fun j => x1 (ix3 b t j) + x2 (ix3 b t j) + x3 (ix3 b t j)) (fun c => x7 (ix2 (0 : Fin 1) c)) j := by
  obtain ⟨⟨h, c⟩, rfl⟩ := (finProdFinEquiv (m := 4) (n := 256)).surjective j
  rw [Row.headRms_at, val_main_v36_apply, to4 (idx_main_v36 (ix3 b t (finProdFinEquiv (m := 4) (n := 256) (h, c)))) b t h c
    (by show ((b.val * 8192 + t.val) * 1024 + (c.val + 256 * h.val)) / 8388608 = b.val; omega)
    (by show ((b.val * 8192 + t.val) * 1024 + (c.val + 256 * h.val)) / 1024 % 8192 = t.val; omega)
    (by show ((b.val * 8192 + t.val) * 1024 + (c.val + 256 * h.val)) / 256 % 4 = h.val; omega)
    (by show ((b.val * 8192 + t.val) * 1024 + (c.val + 256 * h.val)) % 256 = c.val; omega), ref_headRms]

/-- The attention branch. -/
theorem ref_attn (j : Fin 1024) : val_main_v40 (F := Ideal) x0 x1 x2 x3 x5 x6 x7 x8 (ix3 b t j)
    = Row.attn (argWeights x5 x6 x7 x8 x9 x10 x11 x12 x13 x14) (Row.rms Row.len1024 (fun k => x0 (ix3 b t k)) (fun k => x5 (ix2 (0 : Fin 1) k))) (fun k => x1 (ix3 b t k)) (fun k => x2 (ix3 b t k)) (fun k => x3 (ix3 b t k)) j := by
  rw [val_main_v40_apply]
  unfold Row.attn
  show _ = ∑ k : Fin 1024, (_ : EReal)
  refine Finset.sum_congr rfl fun k _ => ?_
  rw [to3 (lidx_main_v40 (ix3 b t j) k) b t k rfl rfl rfl, to2 (ridx_main_v40 (ix3 b t j) k) k j rfl rfl, ref_wo_at,
    val_main_v38_apply, ref_headRow, ref_silu x0 x5 x6 x7 x8 x9 x10 x11 x12 x13 x14]
  rfl

/-! ## The merge -/

/-- The Fourier branch. -/
theorem ref_fourier (j : Fin 1024) : val_main_v42 (F := Ideal) x4 x9 (ix3 b t j) = Row.dot (fun k => x4 (ix3 b t k)) (argWeights x5 x6 x7 x8 x9 x10 x11 x12 x13 x14).wf j := by
  rw [val_main_v42_apply]
  show _ = ∑ k : Fin 512, (_ : EReal)
  refine Finset.sum_congr rfl fun k _ => ?_
  rw [to3 (lidx_main_v42 (ix3 b t j) k) b t k rfl rfl rfl, to2 (ridx_main_v42 (ix3 b t j) k) k j rfl rfl, ref_wf_at]
  rfl

/-- The two branches merged. -/
theorem ref_merged (j : Fin 1024) : val_main_v57 (F := Ideal) x0 x1 x2 x3 x4 x5 x6 x7 x8 x9 (ix3 b t j)
    = Row.merged (argWeights x5 x6 x7 x8 x9 x10 x11 x12 x13 x14) (Row.rms Row.len1024 (fun k => x0 (ix3 b t k)) (fun k => x5 (ix2 (0 : Fin 1) k))) (fun k => x1 (ix3 b t k)) (fun k => x2 (ix3 b t k)) (fun k => x3 (ix3 b t k)) (fun k => x4 (ix3 b t k)) j := by
  rw [val_main_v57_apply, val_main_v49_apply, val_main_v56_apply, ref_gateA x0 x5 x6 x7 x8 x9 x10 x11 x12 x13 x14,
    ref_gateB x0 x5 x6 x7 x8 x9 x10 x11 x12 x13 x14, ref_attn x0 x1 x2 x3 x5 x6 x7 x8 x9 x10 x11 x12 x13 x14,
    ref_fourier x4 x5 x6 x7 x8 x9 x10 x11 x12 x13 x14]
  rfl

/-- A row after the mixer. -/
theorem ref_mixed (j : Fin 1024) : val_main_v60 (F := Ideal) x0 x1 x2 x3 x4 x5 x6 x7 x8 x9 x10 (ix3 b t j) = (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) j := by
  rw [val_main_v60_apply, val_main_v59_apply]
  show x0 (ix3 b t j) + _ = x0 (ix3 b t j) + ∑ k : Fin 1024, (_ : EReal)
  refine congrArg (x0 (ix3 b t j) + ·) (Finset.sum_congr rfl fun k _ => ?_)
  rw [to3 (lidx_main_v59 (ix3 b t j) k) b t k rfl rfl rfl, to2 (ridx_main_v59 (ix3 b t j) k) k j rfl rfl, ref_wout_at,
    ref_merged x0 x1 x2 x3 x4 x5 x6 x7 x8 x9 x10 x11 x12 x13 x14]
  rfl

/-! ## The feed-forward block and the result -/

/-- The normalised row the feed-forward block reads. -/
theorem ref_ffnIn (j : Fin 1024) : val_main_v74 (F := Ideal) x0 x1 x2 x3 x4 x5 x6 x7 x8 x9 x10 x11 (ix3 b t j)
    = Row.rms Row.len1024 (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) (argWeights x5 x6 x7 x8 x9 x10 x11 x12 x13 x14).nffn j := by
  refine (ref_rms b t (val_main_v60 (F := Ideal) x0 x1 x2 x3 x4 x5 x6 x7 x8 x9 x10) x11 j).trans ?_
  rw [funext fun k => ref_mixed x0 x1 x2 x3 x4 x5 x6 x7 x8 x9 x10 x11 x12 x13 x14 b t k]
  rfl

/-- A hidden place of the feed-forward block. -/
theorem ref_hidden (j : Fin 4096) : val_main_v78 (F := Ideal) x0 x1 x2 x3 x4 x5 x6 x7 x8 x9 x10 x11 x12 (ix3 b t j)
    = Row.reluSq (Row.dot (Row.rms Row.len1024 (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) (argWeights x5 x6 x7 x8 x9 x10 x11 x12 x13 x14).nffn) (argWeights x5 x6 x7 x8 x9 x10 x11 x12 x13 x14).w1 j) := by
  have e : val_main_v76 (F := Ideal) x0 x1 x2 x3 x4 x5 x6 x7 x8 x9 x10 x11 x12 (ix3 b t j)
      = Row.dot (Row.rms Row.len1024 (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) (argWeights x5 x6 x7 x8 x9 x10 x11 x12 x13 x14).nffn) (argWeights x5 x6 x7 x8 x9 x10 x11 x12 x13 x14).w1 j := by
    rw [val_main_v76_apply]
    show _ = ∑ k : Fin 1024, (_ : EReal)
    refine Finset.sum_congr rfl fun k _ => ?_
    rw [to3 (lidx_main_v76 (ix3 b t j) k) b t k rfl rfl rfl, to2 (ridx_main_v76 (ix3 b t j) k) k j rfl rfl, ref_w1_at,
      ref_ffnIn x0 x1 x2 x3 x4 x5 x6 x7 x8 x9 x10 x11 x12 x13 x14]
    rfl
  rw [val_main_v78_apply, val_main_v77_apply, e, val_main_call1_v0_apply, val_main_call1_cst_apply, zero_word]
  rfl

/-- A row after the feed-forward block. -/
theorem ref_ffn (j : Fin 1024) : val_main_v81 (F := Ideal) x0 x1 x2 x3 x4 x5 x6 x7 x8 x9 x10 x11 x12 x13 (ix3 b t j) = Row.ffn (argWeights x5 x6 x7 x8 x9 x10 x11 x12 x13 x14) (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) j := by
  rw [val_main_v81_apply, val_main_v80_apply, ref_mixed x0 x1 x2 x3 x4 x5 x6 x7 x8 x9 x10 x11 x12 x13 x14]
  show (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) j + _ = (Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) j + ∑ k : Fin 4096, (_ : EReal)
  refine congrArg ((Row.mixed (argWeights x5 x6 x7 x8 x9 x10 x11 x12 x13 x14) (fun k => x0 (ix3 b t k)) (fun k => x1 (ix3 b t k)) (fun k => x2 (ix3 b t k)) (fun k => x3 (ix3 b t k)) (fun k => x4 (ix3 b t k))) j + ·) (Finset.sum_congr rfl fun k _ => ?_)
  rw [to3 (lidx_main_v80 (ix3 b t j) k) b t k rfl rfl rfl, to2 (ridx_main_v80 (ix3 b t j) k) k j rfl rfl, ref_w2_at,
    ref_hidden x0 x1 x2 x3 x4 x5 x6 x7 x8 x9 x10 x11 x12 x13 x14]
  rfl

/-- A row of the result, before the sequences are laid one after the other. -/
theorem ref_token (j : Fin 1024) : val_main_v94 (F := Ideal) x0 x1 x2 x3 x4 x5 x6 x7 x8 x9 x10 x11 x12 x13 x14 (ix3 b t j)
    = token x0 x1 x2 x3 x4 x5 x6 x7 x8 x9 x10 x11 x12 x13 x14 b t j := by
  have e : val_main_v90 (F := Ideal) x0 x1 x2 x3 x4 x5 x6 x7 x8 x9 x10 x11 x12 x13 (ix3 b t j) = _ :=
    ref_factor b t (val_main_v81 (F := Ideal) x0 x1 x2 x3 x4 x5 x6 x7 x8 x9 x10 x11 x12 x13) j
  simp only [ref_ffn x0 x1 x2 x3 x4 x5 x6 x7 x8 x9 x10 x11 x12 x13 x14] at e
  rw [val_main_v94_apply, val_main_v91_apply, e, ref_ffn x0 x1 x2 x3 x4 x5 x6 x7 x8 x9 x10 x11 x12 x13 x14, val_main_v93_apply, val_main_v92_apply,
    to1 (idx_main_v92 (idx_main_v93 (ix3 b t j))) j rfl]
  rfl

/-- The reference's result is the dense part's function of its arguments. -/
theorem ref_result : val_main_v95 (F := Ideal) x0 x1 x2 x3 x4 x5 x6 x7 x8 x9 x10 x11 x12 x13 x14
    = result x0 x1 x2 x3 x4 x5 x6 x7 x8 x9 x10 x11 x12 x13 x14 := by
  funext i
  obtain ⟨r, j, rfl⟩ : ∃ (r : Fin 16384) (j : Fin 1024), i = ix2 r j := ⟨i 0, i 1, to2 i _ _ rfl rfl⟩
  rw [val_main_v95_apply, to3 (idx_main_v95 (ix2 r j)) (seqOf r) (tokOf r) j
    (by show (r.val * 1024 + j.val) / 8388608 = r.val / 8192; omega)
    (by show (r.val * 1024 + j.val) / 1024 % 8192 = r.val % 8192; omega)
    (by show (r.val * 1024 + j.val) % 1024 = j.val; omega), ref_token]
  rfl

end Stages

end Cert.Tail
-- ==== Proof.ScanTile.lean ====
/-
  One point of the scan: sixty-four chunks in four groups of sixteen. The state of a direction is carried from chunk to
  chunk by one rule, and a group's rows are read off the states before its chunks. Both directions are one definition,
  differing in the order the chunks are taken.
-/
module

public import proofs.«01_k».proof.Proof.Gen.KernelIdeal.Value
public import Idealize.ShloMosaic.Lib.ValueLayout
public import Idealize.ShloMosaic.Lib.Pipeline.Value
public import Idealize.ShloMosaic.Lib.WritesUnit
public import Idealize.ShloMosaic.Lib.Tactic

@[expose] public section

set_option maxRecDepth 16384

noncomputable section

namespace Cert.Scan

open Cert.KernelIdeal Cert.KernelIdeal.Gen Idealize.ShloMosaic Idealize.ShloMosaic.TcCoe Idealize.SL.Sem

variable {F : FTy → Type} [FloatOps F]

theorem inbK (n : ℕ) : ∀ a, (![0, 64 * (n % 64), 0] : Fin 3 → ℕ) a + S1x64x128.size a ≤ S1x4096x128.size a := by
  intro a
  have := Nat.mod_lt n (show 0 < 64 by decide)
  match a with
  | ⟨0, _⟩ => show 0 + 1 ≤ 1; omega
  | ⟨1, _⟩ => show 64 * (n % 64) + 64 ≤ 4096; omega
  | ⟨2, _⟩ => show 0 + 128 ≤ 128; omega

theorem inbV (n : ℕ) : ∀ a, (![0, 64 * (n % 64), 0] : Fin 3 → ℕ) a + S1x64x256.size a ≤ S1x4096x256.size a := by
  intro a
  have := Nat.mod_lt n (show 0 < 64 by decide)
  match a with
  | ⟨0, _⟩ => show 0 + 1 ≤ 1; omega
  | ⟨1, _⟩ => show 64 * (n % 64) + 64 ≤ 4096; omega
  | ⟨2, _⟩ => show 0 + 256 ≤ 256; omega

theorem inbD (n : ℕ) : ∀ a, (![16 * (n % 4), 0] : Fin 2 → ℕ) a + S16x128.size a ≤ S64x128.size a := by
  intro a
  have := Nat.mod_lt n (show 0 < 4 by decide)
  match a with
  | ⟨0, _⟩ => show 16 * (n % 4) + 16 ≤ 64; omega
  | ⟨1, _⟩ => show 0 + 128 ≤ 128; omega

theorem colIn (n : ℕ) : S128x128.Slices ![0, n % 16] S128x1 := by
  have := Nat.mod_lt n (show 0 < 16 by decide)
  refine ⟨rfl, fun a => ?_⟩
  match a with
  | ⟨0, _⟩ => show 0 + 128 ≤ 128; omega
  | ⟨1, _⟩ => show n % 16 + 1 ≤ 128; omega

/-- Chunk `n`'s rows of a block of keys or queries. -/
def ldK (a : Memref sig .tc .vmem S1x4096x128 .bf16) (h : a.IsWhole) (x : Vec F S1x4096x128 .bf16) (n : ℕ) : Vec F S1x64x128 .bf16 :=
  View.readAt (Elt F) a.view (Rect.unit (s := S1x4096x128) ![0, 64 * (n % 64), 0] S1x64x128.size (inbK n)).toLoadRect (h.unread x)

/-- Chunk `n`'s rows of a block of values. -/
def ldV (a : Memref sig .tc .vmem S1x4096x256 .bf16) (h : a.IsWhole) (x : Vec F S1x4096x256 .bf16) (n : ℕ) : Vec F S1x64x256 .bf16 :=
  View.readAt (Elt F) a.view (Rect.unit (s := S1x4096x256) ![0, 64 * (n % 64), 0] S1x64x256.size (inbV n)).toLoadRect (h.unread x)

/-- Group `n`'s rows of a block of decay exponents. -/
def ldD (a : Memref sig .tc .vmem S64x128 .f32) (h : a.IsWhole) (x : Vec F S64x128 .f32) (n : ℕ) : Vec F S16x128 .f32 :=
  View.readAt (Elt F) a.view (Rect.unit (s := S64x128) ![16 * (n % 4), 0] S16x128.size (inbD n)).toLoadRect (h.unread x)

/-- What one direction reads, and the order it takes groups and chunks in. -/
structure Dir (F : FTy → Type) [FloatOps F] where
  q : ℕ → Vec F S1x64x128 .bf16
  k : ℕ → Vec F S1x64x128 .bf16
  v : ℕ → Vec F S1x64x256 .bf16
  b : ℕ → Vec F S16x128 .f32
  pos : ℕ → ℕ
  ord : ℕ → ℕ

/-- One chunk's step: the state decayed row by row, with the chunk's increment added. -/
def stepV (dec : FVec F S128x128 .f32) (i : ℕ) (S inc : FVec F S128x256 .f32) : FVec F S128x256 .f32 :=
  addf (mulf S (broadcastTo S128x256 (shapeCast S128x1 (extractStridedSlice S128x1 ![0, i % 16] dec (colIn i)) shapeCasts_S128x1_S128x1)
    broadcasts_S128x1_S128x256)) inc

/-- The state after `s` of group `j`'s chunks, from the state `S` before it. -/
def Dir.state (d : Dir F) (j : ℕ) (S : FVec F S128x256 .f32) (s : ℕ) : FVec F S128x256 .f32 :=
  Nat.rec (motive := fun _ => FVec F S128x256 .f32) S (fun s acc => stepV (k0_pay7 (d.b (d.pos j))) (d.ord s) acc
    (k0_pay9 (d.k (16 * d.pos j + d.ord s)) (d.v (16 * d.pos j + d.ord s)))) s

/-- The rows of chunk `i` of group `j`. -/
def Dir.item (d : Dir F) (j : ℕ) (S : FVec F S128x256 .f32) (i : ℕ) : FVec F S64x256 .f32 :=
  k0_pay14 (d.state j S (d.ord i)) (d.q (16 * d.pos j + i))

/-- The rows of group `j`. -/
def Dir.out (d : Dir F) (j : ℕ) (S : FVec F S128x256 .f32) : FVec F S1024x256 .bf16 :=
  k0_pay3 (d.item j S 0) (d.item j S 1) (d.item j S 2) (d.item j S 3) (d.item j S 4) (d.item j S 5) (d.item j S 6) (d.item j S 7)
    (d.item j S 8) (d.item j S 9) (d.item j S 10) (d.item j S 11) (d.item j S 12) (d.item j S 13) (d.item j S 14) (d.item j S 15)

/-- The scratch's stores after a group. -/
def Dir.push (d : Dir F) (j : ℕ) (S : FVec F S128x256 .f32) (L : List (View.Piece (Elt F) S128x256 .f32)) :
    List (View.Piece (Elt F) S128x256 .f32) :=
  ⟨Rect.unit ![0, 0] ![128, 256] inb_S128x256_S128x256_0_0, k0_pay1 (d.state j S 16)⟩ :: L

/-- What a load of the scratch reads after its stores. -/
def again (a : Memref sig .tc .vmem S128x256 .f32) (L : List (View.Piece (Elt F) S128x256 .f32)) : FVec F S128x256 .f32 :=
  a.view.readCov L (Rect.unit (s := S128x256) ![0, 0] S128x256.size inb_S128x256_S128x256_0_0).toLoadRect

/-- The scratch's stores before group `j`, and the state that group starts from. -/
def Dir.hist (d : Dir F) (a : Memref sig .tc .vmem S128x256 .f32) (S : FVec F S128x256 .f32)
    (L : List (View.Piece (Elt F) S128x256 .f32)) (j : ℕ) : List (View.Piece (Elt F) S128x256 .f32) × FVec F S128x256 .f32 :=
  Nat.rec (motive := fun _ => List (View.Piece (Elt F) S128x256 .f32) × FVec F S128x256 .f32) (L, S)
    (fun j p => (d.push j p.2 p.1, again a (d.push j p.2 p.1))) j

/-- The first direction: chunks in order. -/
def fwd (a3 : Memref sig .tc .vmem S1x4096x128 .bf16) (h3 : a3.IsWhole) (a4 : Memref sig .tc .vmem S1x4096x128 .bf16) (h4 : a4.IsWhole)
    (a5 : Memref sig .tc .vmem S1x4096x256 .bf16) (h5 : a5.IsWhole) (a6 : Memref sig .tc .vmem S64x128 .f32) (h6 : a6.IsWhole)
    (x0 x1 : Vec F S1x4096x128 .bf16) (x2 : Vec F S1x4096x256 .bf16) (x3 : Vec F S64x128 .f32) : Dir F where
  q := ldK a3 h3 x0
  k := ldK a4 h4 x1
  v := ldV a5 h5 x2
  b := ldD a6 h6 x3
  pos j := j
  ord s := s

/-- The second direction: chunks from the last. -/
def bwd (a3 : Memref sig .tc .vmem S1x4096x128 .bf16) (h3 : a3.IsWhole) (a4 : Memref sig .tc .vmem S1x4096x128 .bf16) (h4 : a4.IsWhole)
    (a5 : Memref sig .tc .vmem S1x4096x256 .bf16) (h5 : a5.IsWhole) (a6 : Memref sig .tc .vmem S64x128 .f32) (h6 : a6.IsWhole)
    (x0 x1 : Vec F S1x4096x128 .bf16) (x2 : Vec F S1x4096x256 .bf16) (x3 : Vec F S64x128 .f32) : Dir F where
  q := ldK a3 h3 x0
  k := ldK a4 h4 x1
  v := ldV a5 h5 x2
  b := ldD a6 h6 x3
  pos j := 3 - j
  ord s := 15 - s

/-- The first direction's rows, as they are stored. -/
def Dir.rows (d : Dir F) (H : ℕ → FVec F S128x256 .f32) : List (View.Piece (Elt F) S4096x256 .bf16) :=
  [⟨Rect.unit ![3072, 0] S1024x256.size inb_S4096x256_S1024x256_3072_0, d.out 3 (H 3)⟩,
   ⟨Rect.unit ![2048, 0] S1024x256.size inb_S4096x256_S1024x256_2048_0, d.out 2 (H 2)⟩,
   ⟨Rect.unit ![1024, 0] S1024x256.size inb_S4096x256_S1024x256_1024_0, d.out 1 (H 1)⟩,
   ⟨Rect.unit ![0, 0] S1024x256.size inb_S4096x256_S1024x256_0_0, d.out 0 (H 0)⟩]

/-- The second direction's rows, as they are stored. -/
def Dir.rowsBack (d : Dir F) (H : ℕ → FVec F S128x256 .f32) : List (View.Piece (Elt F) S4096x256 .bf16) :=
  [⟨Rect.unit ![0, 0] S1024x256.size inb_S4096x256_S1024x256_0_0, d.out 3 (H 3)⟩,
   ⟨Rect.unit ![1024, 0] S1024x256.size inb_S4096x256_S1024x256_1024_0, d.out 2 (H 2)⟩,
   ⟨Rect.unit ![2048, 0] S1024x256.size inb_S4096x256_S1024x256_2048_0, d.out 1 (H 1)⟩,
   ⟨Rect.unit ![3072, 0] S1024x256.size inb_S4096x256_S1024x256_3072_0, d.out 0 (H 0)⟩]

/-- A store that fills a scratch. -/
def whole (v : FVec F S128x256 .f32) : List (View.Piece (Elt F) S128x256 .f32) :=
  [⟨Rect.unit ![0, 0] ![128, 256] inb_S128x256_S128x256_0_0, v⟩]

/-- A load of all of a scratch holding `S`. -/
def kept (a : Memref sig .tc .vmem S128x256 .f32) (h : a.IsWhole) (S : FVec F S128x256 .f32) : FVec F S128x256 .f32 :=
  View.readAt (Elt F) a.view (Rect.unit (s := S128x256) ![0, 0] S128x256.size inb_S128x256_S128x256_0_0).toLoadRect (h.unread S)

/-- The first state of a sequence of chunks: the boundary rows' outer products. -/
def initV (a11 : Memref sig .tc .vmem S1x64x128 .bf16) (h11 : a11.IsWhole) (a12 : Memref sig .tc .vmem S1x64x256 .bf16) (h12 : a12.IsWhole)
    (x8 : Vec F S1x64x128 .bf16) (x9 : Vec F S1x64x256 .bf16) : FVec F S128x256 .f32 :=
  k0_pay5 (View.readAt (Elt F) a11.view (Rect.unit (s := S1x64x128) ![0, 0, 0] S1x64x128.size inb_S1x64x128_S1x64x128_0_0_0).toLoadRect (h11.unread x8))
    (View.readAt (Elt F) a12.view (Rect.unit (s := S1x64x256) ![0, 0, 0] S1x64x256.size inb_S1x64x256_S1x64x256_0_0_0).toLoadRect (h12.unread x9))

/-- The first scratch's stores, at a later point. -/
theorem run_B_s0 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : ¬cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) (xs0 : Vec F S128x256 .f32) (xs1 : Vec F S128x256 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).2.2.1
      = ((fwd arg3 harg3 arg4 harg4 arg5 harg5 arg6 harg6 x0 x1 x2 x3).hist arg15 (kept arg15 harg15 xs0) [] 4).1 := by
  sl_kernel_rfl

/-- The second scratch's stores, at a later point. -/
theorem run_B_s1 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : ¬cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) (xs0 : Vec F S128x256 .f32) (xs1 : Vec F S128x256 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).2.2.2.1
      = ((bwd arg7 harg7 arg8 harg8 arg9 harg9 arg10 harg10 x4 x5 x6 x7).hist arg16 (kept arg16 harg16 xs1) [] 4).1 := by
  sl_kernel_rfl

/-- The first result's stores, at a later point. -/
theorem run_B_o0 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : ¬cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) (xs0 : Vec F S128x256 .f32) (xs1 : Vec F S128x256 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).1
      = (fwd arg3 harg3 arg4 harg4 arg5 harg5 arg6 harg6 x0 x1 x2 x3).rows fun j => ((fwd arg3 harg3 arg4 harg4 arg5 harg5 arg6 harg6 x0 x1 x2 x3).hist arg15 (kept arg15 harg15 xs0) [] j).2 := by
  sl_kernel_rfl

/-- The second result's stores, at a later point. -/
theorem run_B_o1 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : ¬cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) (xs0 : Vec F S128x256 .f32) (xs1 : Vec F S128x256 .f32) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1).2.1
      = (bwd arg7 harg7 arg8 harg8 arg9 harg9 arg10 harg10 x4 x5 x6 x7).rowsBack fun j => ((bwd arg7 harg7 arg8 harg8 arg9 harg9 arg10 harg10 x4 x5 x6 x7).hist arg16 (kept arg16 harg16 xs1) [] j).2 := by
  sl_kernel_rfl

/-- The first scratch's stores, at a first point. -/
theorem run_A_s0 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1
      = ((fwd arg3 harg3 arg4 harg4 arg5 harg5 arg6 harg6 x0 x1 x2 x3).hist arg15 (again arg15 (whole (initV arg11 harg11 arg12 harg12 x8 x9))) (whole (initV arg11 harg11 arg12 harg12 x8 x9)) 4).1 := by
  sl_kernel_rfl

/-- The second scratch's stores, at a first point. -/
theorem run_A_s1 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1
      = ((bwd arg7 harg7 arg8 harg8 arg9 harg9 arg10 harg10 x4 x5 x6 x7).hist arg16 (again arg16 (whole k0_pay6)) (whole k0_pay6) 4).1 := by
  sl_kernel_rfl

/-- The first result's stores, at a first point. -/
theorem run_A_o0 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1
      = (fwd arg3 harg3 arg4 harg4 arg5 harg5 arg6 harg6 x0 x1 x2 x3).rows fun j => ((fwd arg3 harg3 arg4 harg4 arg5 harg5 arg6 harg6 x0 x1 x2 x3).hist arg15 (again arg15 (whole (initV arg11 harg11 arg12 harg12 x8 x9))) (whole (initV arg11 harg11 arg12 harg12 x8 x9)) j).2 := by
  sl_kernel_rfl

/-- The second result's stores, at a first point. -/
theorem run_A_o1 (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x256 .bf16) (harg5 : arg5.IsWhole) (arg6 : Memref sig .tc .vmem S64x128 .f32) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S64x128 .f32) (harg10 : arg10.IsWhole) (arg11 : Memref sig .tc .vmem S1x64x128 .bf16) (harg11 : arg11.IsWhole) (arg12 : Memref sig .tc .vmem S1x64x256 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S128x256 .f32) (harg15 : arg15.IsWhole) (arg16 : Memref sig .tc .vmem S128x256 .f32) (harg16 : arg16.IsWhole) (hc0 : cond0_0 i)
    (x0 : Vec F S1x4096x128 .bf16) (x1 : Vec F S1x4096x128 .bf16) (x2 : Vec F S1x4096x256 .bf16) (x3 : Vec F S64x128 .f32) (x4 : Vec F S1x4096x128 .bf16) (x5 : Vec F S1x4096x128 .bf16) (x6 : Vec F S1x4096x256 .bf16) (x7 : Vec F S64x128 .f32) (x8 : Vec F S1x64x128 .bf16) (x9 : Vec F S1x64x256 .bf16) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1
      = (bwd arg7 harg7 arg8 harg8 arg9 harg9 arg10 harg10 x4 x5 x6 x7).rowsBack fun j => ((bwd arg7 harg7 arg8 harg8 arg9 harg9 arg10 harg10 x4 x5 x6 x7).hist arg16 (again arg16 (whole k0_pay6)) (whole k0_pay6) j).2 := by
  sl_kernel_rfl

end Cert.Scan

end
-- ==== Proof.ScanMath.lean ====
/-
  The scan over chunk states in closed form: a state is decayed and added to once per chunk, the chunks taken forwards for
  one direction and backwards for the other, and a row of the result is a row of queries against the state before the
  row's chunk.
-/
module

public import Idealize.ShloMosaic.Lib.ValueLayout
public import Idealize.ShloMosaic.PureOps.Ideal.Laws

@[expose] public section

noncomputable section

namespace Cert.Scan

open Idealize.ShloMosaic Idealize.ShloMosaic.ValueIdx

/-- A state: one entry per key feature and value feature. -/
abbrev St : Type := Fin 128 → Fin 256 → EReal

/-- One chunk's step. -/
def mstep (D : Fin 128 → EReal) (I : St) (S : St) : St := fun a e => S a e * D a + I a e

/-- The state after `t` chunks. -/
def chain (D : ℕ → Fin 128 → EReal) (I : ℕ → St) (S : St) : ℕ → St
  | 0 => S
  | t + 1 => mstep (D t) (I t) (chain D I S t)

/-- A run of chunks is the first of them, then the rest. -/
theorem chain_add (D : ℕ → Fin 128 → EReal) (I : ℕ → St) (S : St) (p n : ℕ) :
    chain D I S (p + n) = chain (fun t => D (p + t)) (fun t => I (p + t)) (chain D I S p) n := by
  induction n with
  | zero => rfl
  | succ n ih =>
    show mstep (D (p + n)) (I (p + n)) (chain D I S (p + n)) = _
    rw [ih]
    rfl

/-- Only the chunks taken matter. -/
theorem chain_congr {D D' : ℕ → Fin 128 → EReal} {I I' : ℕ → St} (S : St) (n : ℕ) (hD : ∀ t < n, D t = D' t) (hI : ∀ t < n, I t = I' t) :
    chain D I S n = chain D' I' S n := by
  induction n with
  | zero => rfl
  | succ n ih =>
    show mstep (D n) (I n) (chain D I S n) = mstep (D' n) (I' n) (chain D' I' S n)
    rw [ih (fun t h => hD t (by omega)) (fun t h => hI t (by omega)), hD n (by omega), hI n (by omega)]

/-- What chunk `n` adds to the state. -/
def incr (K : ℕ → Fin 128 → EReal) (W : ℕ → Fin 256 → EReal) (n : ℕ) : St :=
  fun a e => ∑ r : Fin 64, K (64 * n + r.val) a * W (64 * n + r.val) e

/-- Chunk `n`'s decay. -/
def decay (B : ℕ → Fin 128 → EReal) (n : ℕ) : Fin 128 → EReal := fun a => Ideal.exp2 (B n a)

/-- The state after `t` chunks, the chunks taken in the order `f`. -/
def along (f : ℕ → ℕ) (K : ℕ → Fin 128 → EReal) (W : ℕ → Fin 256 → EReal) (B : ℕ → Fin 128 → EReal) (S : St) (t : ℕ) : St :=
  chain (fun t => decay B (f t)) (fun t => incr K W (f t)) S t

/-- A run of chunks goes on from where it was. -/
theorem along_add (f : ℕ → ℕ) (K : ℕ → Fin 128 → EReal) (W : ℕ → Fin 256 → EReal) (B : ℕ → Fin 128 → EReal) (S : St) (p n : ℕ) :
    chain (fun t => decay B (f (p + t))) (fun t => incr K W (f (p + t))) (along f K W B S p) n = along f K W B S (p + n) :=
  (chain_add (fun t => decay B (f t)) (fun t => incr K W (f t)) S p n).symm

/-- Rows from `o` on. -/
def shift {α : Type} (o : ℕ) (X : ℕ → α) : ℕ → α := fun p => X (o + p)

/-- A run over the rows from chunk `q` on goes on with a run over all rows. -/
theorem along_shift (f f' : ℕ → ℕ) (K : ℕ → Fin 128 → EReal) (W : ℕ → Fin 256 → EReal) (B : ℕ → Fin 128 → EReal) (S : St) (q p n : ℕ)
    (h : ∀ t < n, q + f t = f' (p + t)) :
    along f (shift (64 * q) K) (shift (64 * q) W) (shift q B) (along f' K W B S p) n = along f' K W B S (p + n) := by
  rw [← along_add]
  refine chain_congr _ n (fun t ht => ?_) (fun t ht => ?_)
  · show (fun a => Ideal.exp2 (B (q + f t) a)) = fun a => Ideal.exp2 (B (f' (p + t)) a)
    rw [h t ht]
  · funext a e
    refine Finset.sum_congr rfl fun r _ => ?_
    show K (64 * q + (64 * f t + r.val)) a * W (64 * q + (64 * f t + r.val)) e = K (64 * f' (p + t) + r.val) a * W (64 * f' (p + t) + r.val) e
    rw [← h t ht, show 64 * q + (64 * f t + r.val) = 64 * (q + f t) + r.val by omega]

/-- Row `s` of a result whose chunk has `t` chunks before it. -/
def rowAt (Q : ℕ → Fin 128 → EReal) (S : St) (s : ℕ) (e : Fin 256) : EReal := ∑ a : Fin 128, Q s a * S a e

/-- The rows of one sequence and head of an array. -/
def rowsOf {n d : ℕ} [NeZero n] (X : (⟨4, ![2, 4, n, d]⟩ : Shape).Idx → EReal) (b : Fin 2) (h : Fin 4) (s : ℕ) (a : Fin d) : EReal :=
  X (ix4 b h (Fin.ofNat n s) a)

/-- The state the first direction starts from: the boundary rows' outer products. -/
def start (KM : (⟨3, ![4, 64, 128]⟩ : Shape).Idx → EReal) (WM : (⟨3, ![4, 64, 256]⟩ : Shape).Idx → EReal) (h : Fin 4) : St :=
  fun a e => ∑ r : Fin 64, KM (ix3 h r a) * WM (ix3 h r e)

/-- The first direction's result for one sequence and head. -/
def forth (Q K : (⟨4, ![2, 4, 8192, 128]⟩ : Shape).Idx → EReal) (W : (⟨4, ![2, 4, 8192, 256]⟩ : Shape).Idx → EReal)
    (B : (⟨4, ![2, 4, 128, 128]⟩ : Shape).Idx → EReal) (S : St) (b : Fin 2) (h : Fin 4) (s : ℕ) (e : Fin 256) : EReal :=
  rowAt (rowsOf Q b h) (along (fun t => t) (rowsOf K b h) (rowsOf W b h) (rowsOf B b h) S (s / 64)) s e

/-- The second direction's result for one sequence and head. -/
def back (Q K : (⟨4, ![2, 4, 8192, 128]⟩ : Shape).Idx → EReal) (W : (⟨4, ![2, 4, 8192, 256]⟩ : Shape).Idx → EReal)
    (B : (⟨4, ![2, 4, 128, 128]⟩ : Shape).Idx → EReal) (b : Fin 2) (h : Fin 4) (s : ℕ) (e : Fin 256) : EReal :=
  rowAt (rowsOf Q b h) (along (fun t => 127 - t) (rowsOf K b h) (rowsOf W b h) (rowsOf B b h) (fun _ _ => 0) (127 - s / 64)) s e

/-- The sequence, token, head and feature of a place in a result. -/
def batchOf (r : Fin 16384) : Fin 2 := ⟨r.val / 8192, by omega⟩
def headOf (j : Fin 1024) : Fin 4 := ⟨j.val / 256, by omega⟩
def featOf (j : Fin 1024) : Fin 256 := ⟨j.val % 256, Nat.mod_lt _ (by decide)⟩

/-- A result at a row and column of a sequence, token, head and feature. -/
theorem place_result (F : Fin 2 → Fin 4 → ℕ → Fin 256 → EReal) (b : Fin 2) (h : Fin 4) (s : ℕ) (hs : s < 8192) (e : Fin 256)
    (r : Fin 16384) (j : Fin 1024) (hr : r.val = 8192 * b.val + s) (hj : j.val = h.val * 256 + e.val) :
    F b h s e = F (batchOf r) (headOf j) (r.val % 8192) (featOf j) := by
  have e0 : batchOf r = b := Fin.ext (by show r.val / 8192 = b.val; omega)
  have e1 : headOf j = h := Fin.ext (by show j.val / 256 = h.val; omega)
  have e2 : featOf j = e := Fin.ext (by show j.val % 256 = e.val; omega)
  have e3 : r.val % 8192 = s := by omega
  rw [e0, e1, e2, e3]

/-- The first result. -/
def resultF (Q K : (⟨4, ![2, 4, 8192, 128]⟩ : Shape).Idx → EReal) (W : (⟨4, ![2, 4, 8192, 256]⟩ : Shape).Idx → EReal)
    (B : (⟨4, ![2, 4, 128, 128]⟩ : Shape).Idx → EReal) (KM : (⟨3, ![4, 64, 128]⟩ : Shape).Idx → EReal)
    (WM : (⟨3, ![4, 64, 256]⟩ : Shape).Idx → EReal) : (⟨2, ![16384, 1024]⟩ : Shape).Idx → EReal :=
  fun i => forth Q K W B (start KM WM (headOf (i 1))) (batchOf (i 0)) (headOf (i 1)) ((i 0).val % 8192) (featOf (i 1))

/-- The second result. -/
def resultB (Q K : (⟨4, ![2, 4, 8192, 128]⟩ : Shape).Idx → EReal) (W : (⟨4, ![2, 4, 8192, 256]⟩ : Shape).Idx → EReal)
    (B : (⟨4, ![2, 4, 128, 128]⟩ : Shape).Idx → EReal) : (⟨2, ![16384, 1024]⟩ : Shape).Idx → EReal :=
  fun i => back Q K W B (batchOf (i 0)) (headOf (i 1)) ((i 0).val % 8192) (featOf (i 1))

end Cert.Scan

end
-- ==== Proof.ScanStep.lean ====
/-
  What a point of the scan holds, in closed form: its states are the chain of steps of `ScanMath.lean`, and its rows are
  rows of queries against those states.
-/
module

public import proofs.«01_k».proof.Proof.ScanTile
public import proofs.«01_k».proof.Proof.ScanMath
public import Idealize.ShloMosaic.Lib.MatmulPlain
public import Idealize.ShloMosaic.Lib.VecWindow
public import Idealize.ShloMosaic.Lib.Pipeline.ValueKit

@[expose] public section

noncomputable section

namespace Cert.Scan

open Cert.KernelIdeal Cert.KernelIdeal.Gen Idealize.ShloMosaic.TcCoe Idealize.ShloMosaic.ValueIdx Idealize.SL.Sem
open Idealize.ShloMosaic hiding ix2 ix3 addf_apply mulf_apply

/-- A state held as a block. -/
def toSt (S : FVec Ideal S128x256 .f32) : St := fun a e => S (ix2 a e)

/-! ## Loads -/

theorem ldK_apply (a : Memref sig .tc .vmem S1x4096x128 .bf16) (h : a.IsWhole) (x : Vec Ideal S1x4096x128 .bf16) (n : ℕ) (hn : n < 64)
    (r : Fin 64) (j : Fin 128) : ldK a h x n (ix3 (0 : Fin 1) r j) = x (ix3 (0 : Fin 1) (Fin.ofNat 4096 (64 * n + r.val)) j) := by
  unfold ldK
  rw [View.readAt_eq_ld, h.read_unread]
  refine View.ld_unit_apply_of _ _ _ _ _ _ fun ax => ?_
  match ax with
  | ⟨0, _⟩ => rfl
  | ⟨1, _⟩ => show (64 * n + r.val) % 4096 = 64 * (n % 64) + r.val; omega
  | ⟨2, _⟩ => show j.val = 0 + j.val; omega

theorem ldV_apply (a : Memref sig .tc .vmem S1x4096x256 .bf16) (h : a.IsWhole) (x : Vec Ideal S1x4096x256 .bf16) (n : ℕ) (hn : n < 64)
    (r : Fin 64) (j : Fin 256) : ldV a h x n (ix3 (0 : Fin 1) r j) = x (ix3 (0 : Fin 1) (Fin.ofNat 4096 (64 * n + r.val)) j) := by
  unfold ldV
  rw [View.readAt_eq_ld, h.read_unread]
  refine View.ld_unit_apply_of _ _ _ _ _ _ fun ax => ?_
  match ax with
  | ⟨0, _⟩ => rfl
  | ⟨1, _⟩ => show (64 * n + r.val) % 4096 = 64 * (n % 64) + r.val; omega
  | ⟨2, _⟩ => show j.val = 0 + j.val; omega

theorem ldD_apply (a : Memref sig .tc .vmem S64x128 .f32) (h : a.IsWhole) (x : Vec Ideal S64x128 .f32) (n : ℕ) (hn : n < 4)
    (r : Fin 16) (j : Fin 128) : ldD a h x n (ix2 r j) = x (ix2 (Fin.ofNat 64 (16 * n + r.val)) j) := by
  unfold ldD
  rw [View.readAt_eq_ld, h.read_unread]
  refine View.ld_unit_apply_of _ _ _ _ _ _ fun ax => ?_
  match ax with
  | ⟨0, _⟩ => show (16 * n + r.val) % 64 = 16 * (n % 4) + r.val; omega
  | ⟨1, _⟩ => show j.val = 0 + j.val; omega

theorem kept_eq (a : Memref sig .tc .vmem S128x256 .f32) (h : a.IsWhole) (S : FVec Ideal S128x256 .f32) : kept a h S = S := by
  unfold kept
  exact (View.readAt_full _ _ _).trans (h.read_unread _)

/-- The last store that fills a scratch is what it holds. -/
theorem read_whole (v : View sig .tc .vmem S128x256 .f32) (f : v.ty.Contents (Elt Ideal)) (w : FVec Ideal S128x256 .f32)
    (L : List (View.Piece (Elt Ideal) S128x256 .f32)) :
    v.read (Elt Ideal) (v.writes (Elt Ideal) f (⟨Rect.unit ![0, 0] ![128, 256] inb_S128x256_S128x256_0_0, w⟩ :: L)) = w := by
  funext y
  refine View.read_writes_cons_unit_of_mem v f inb_S128x256_S128x256_0_0 w L y y rfl fun ax => ?_
  match ax with
  | ⟨0, _⟩ => show (y 0).val = 0 + (y 0).val; omega
  | ⟨1, _⟩ => show (y 1).val = 0 + (y 1).val; omega

theorem again_cons (a : Memref sig .tc .vmem S128x256 .f32) (v : FVec Ideal S128x256 .f32) (L : List (View.Piece (Elt Ideal) S128x256 .f32)) :
    again a (⟨Rect.unit ![0, 0] ![128, 256] inb_S128x256_S128x256_0_0, v⟩ :: L) = v := by
  unfold again View.readCov
  rw [View.readAt_full]
  exact read_whole a.view _ v L

/-! ## One chunk -/

/-- A product that contracts both operands' rows, into zero. -/
theorem cols_apply (A : FVec Ideal S64x128 .bf16) (B : FVec Ideal S64x256 .bf16) (a : Fin 128) (e : Fin 256) :
    matmul dot_S64x128_S64x256_S128x256_0_0_1_1_n_n none A B (constant S128x256 .f32 0x00000000#32) (ix2 a e)
      = ∑ r : Fin 64, A (ix2 r a) * B (ix2 r e) := by
  refine (Ideal.matmul_constant_zero_apply dot_S64x128_S64x256_S128x256_0_0_1_1_n_n none A B (ix2 a e)).trans ?_
  let E := contrEquiv1 dot_S64x128_S64x256_S128x256_0_0_1_1_n_n 64 rfl rfl
  rw [← Equiv.sum_comp E.symm]
  refine Finset.sum_congr rfl fun k _ => ?_
  have hk := contrEquiv1_symm_val dot_S64x128_S64x256_S128x256_0_0_1_1_n_n 64 rfl rfl k
  have el : dot_S64x128_S64x256_S128x256_0_0_1_1_n_n.lhsIdx (ix2 a e) (E.symm k) = ix2 k a := by
    funext ax; apply Fin.ext
    match ax with
    | ⟨0, _⟩ => exact hk
    | ⟨1, _⟩ => rfl
  have er : dot_S64x128_S64x256_S128x256_0_0_1_1_n_n.rhsIdx (ix2 a e) (E.symm k) = ix2 k e := by
    funext ax; apply Fin.ext
    match ax with
    | ⟨0, _⟩ => exact hk
    | ⟨1, _⟩ => rfl
  rw [el, er]

theorem incV_apply (k : Vec Ideal S1x64x128 .bf16) (v : Vec Ideal S1x64x256 .bf16) (a : Fin 128) (e : Fin 256) :
    k0_pay9 k v (ix2 a e) = ∑ r : Fin 64, (k (ix3 (0 : Fin 1) r a) : EReal) * v (ix3 (0 : Fin 1) r e) := by
  refine (cols_apply _ _ a e).trans (Finset.sum_congr rfl fun r _ => ?_)
  rw [shapeCast_1ab_ab_apply, shapeCast_1ab_ab_apply]

theorem initV_apply (k : Vec Ideal S1x64x128 .bf16) (v : Vec Ideal S1x64x256 .bf16) (a : Fin 128) (e : Fin 256) :
    k0_pay5 k v (ix2 a e) = ∑ r : Fin 64, (k (ix3 (0 : Fin 1) r a) : EReal) * v (ix3 (0 : Fin 1) r e) := by
  have e' : k0_pay5 k v = k0_pay9 k v := shapeCast_self _ _
  rw [e', incV_apply]

theorem outV_apply (S : FVec Ideal S128x256 .f32) (q : Vec Ideal S1x64x128 .bf16) (r : Fin 64) (e : Fin 256) :
    k0_pay14 S q (ix2 r e) = ∑ a : Fin 128, (q (ix3 (0 : Fin 1) r a) : EReal) * S (ix2 a e) := by
  have hD : dot_S64x128_S128x256_S64x256_1_0_0_1_n_n = DotDims.plain 64 128 256 := rfl
  show matmul dot_S64x128_S128x256_S64x256_1_0_0_1_n_n none (shapeCast S64x128 q shapeCasts_S1x64x128_S64x128)
    (truncf .bf16 S bitsLt_bf16_f32) (constant S64x256 .f32 0x00000000#32) (ix2 r e) = _
  rw [hD]
  refine (Ideal.matmul_plain_apply none _ _ _ r e).trans ?_
  rw [constant_apply, show Ideal.ofBits .f32 0x00000000#32 = 0 from IdealRules.sign_bit.ideal_zero .f32, zero_add]
  refine Finset.sum_congr rfl fun k _ => ?_
  rw [shapeCast_1ab_ab_apply]
  rfl

theorem decV_apply (b : Vec Ideal S16x128 .f32) (a i : Fin 128) (i' : Fin 16) (hi : i'.val = i.val % 16) :
    k0_pay7 b (ix2 a i) = Ideal.exp2 (b (ix2 i' a)) := by
  have e : shapeCast S16x128 b shapeCasts_S16x128_S16x128 = b := shapeCast_self _ _
  unfold k0_pay7
  rw [transpose_ix2_apply, e]
  refine concatenate_replicate_apply (t := S128x128) (s₁ := S16x128) 0 8 (exp2 (F := Ideal) (s := S16x128) (φ := .f32) b)
    concatenates_S16x128_S16x128_S16x128_S16x128_S16x128_S16x128_S16x128_S16x128_S128x128_d0 rfl (ix2 i a) (ix2 i' a) hi fun ax hax => ?_
  match ax with
  | ⟨0, _⟩ => exact absurd rfl hax
  | ⟨1, _⟩ => rfl

theorem stepV_apply (dec : FVec Ideal S128x128 .f32) (i : Fin 16) (S inc : FVec Ideal S128x256 .f32) (a : Fin 128) (e : Fin 256) :
    stepV dec i.val S inc (ix2 a e) = S (ix2 a e) * dec (ix2 a (⟨i.val, by omega⟩ : Fin 128)) + inc (ix2 a e) := by
  unfold stepV
  rw [addf_apply, mulf_apply, shapeCast_self]
  rw [broadcastTo_apply _ broadcasts_S128x1_S128x256 (ix2 a e) (ix2 a (0 : Fin 1)) (fun ax => by
    match ax with
    | ⟨0, _⟩ => rfl
    | ⟨1, _⟩ => rfl)]
  rw [extractStridedSlice_apply _ _ _ (ix2 a (0 : Fin 1)) (ix2 a (⟨i.val, by omega⟩ : Fin 128)) (fun ax => by
    match ax with
    | ⟨0, _⟩ => show a.val = 0 + a.val; omega
    | ⟨1, _⟩ => show i.val = i.val % 16 + 0; omega)]

/-! ## The chunks of a point -/

/-- What a direction of a point reads, as rows. -/
structure Dir.Reads (d : Dir Ideal) (Q K : ℕ → Fin 128 → EReal) (W : ℕ → Fin 256 → EReal) (B : ℕ → Fin 128 → EReal) : Prop where
  q : ∀ n < 64, ∀ (r : Fin 64) (a : Fin 128), d.q n (ix3 (0 : Fin 1) r a) = Q (64 * n + r.val) a
  k : ∀ n < 64, ∀ (r : Fin 64) (a : Fin 128), d.k n (ix3 (0 : Fin 1) r a) = K (64 * n + r.val) a
  v : ∀ n < 64, ∀ (r : Fin 64) (a : Fin 256), d.v n (ix3 (0 : Fin 1) r a) = W (64 * n + r.val) a
  b : ∀ n < 4, ∀ (r : Fin 16) (a : Fin 128), d.b n (ix2 r a) = B (16 * n + r.val) a
  pos : ∀ j < 4, d.pos j < 4
  ord : ∀ s < 16, d.ord s < 16

/-- The order a direction takes a point's chunks in. -/
def Dir.seq (d : Dir Ideal) (t : ℕ) : ℕ := 16 * d.pos (t / 16) + d.ord (t % 16)

variable {d : Dir Ideal} {Q K : ℕ → Fin 128 → EReal} {W : ℕ → Fin 256 → EReal} {B : ℕ → Fin 128 → EReal}

theorem state_eq (H : d.Reads Q K W B) (j : ℕ) (hj : j < 4) (S : FVec Ideal S128x256 .f32) (s : ℕ) (hs : s ≤ 16) :
    toSt (d.state j S s) = chain (fun t => decay B (d.seq (16 * j + t))) (fun t => incr K W (d.seq (16 * j + t))) (toSt S) s := by
  induction s with
  | zero => rfl
  | succ s ih =>
    have hseq : d.seq (16 * j + s) = 16 * d.pos j + d.ord s := by
      unfold Dir.seq
      rw [show (16 * j + s) / 16 = j by omega, show (16 * j + s) % 16 = s by omega]
    have hp := H.pos j hj
    have ho := H.ord s (by omega)
    show toSt (stepV (k0_pay7 (d.b (d.pos j))) (d.ord s) (d.state j S s)
      (k0_pay9 (d.k (16 * d.pos j + d.ord s)) (d.v (16 * d.pos j + d.ord s)))) = mstep _ _ (chain _ _ (toSt S) s)
    rw [← ih (by omega)]
    funext a e
    refine (stepV_apply _ ⟨d.ord s, ho⟩ _ _ a e).trans ?_
    rw [decV_apply _ a ⟨d.ord s, by omega⟩ ⟨d.ord s, ho⟩ (by show d.ord s = d.ord s % 16; omega), incV_apply, H.b _ hp]
    unfold mstep decay incr
    dsimp only
    rw [hseq]
    refine congrArg (toSt (d.state j S s) a e * Ideal.exp2 (B (16 * d.pos j + d.ord s) a) + ·) ?_
    refine Finset.sum_congr rfl fun r _ => ?_
    rw [H.k _ (by omega), H.v _ (by omega)]

/-- The state before group `j`. -/
theorem hist_eq (H : d.Reads Q K W B) (m : Memref sig .tc .vmem S128x256 .f32) (S : FVec Ideal S128x256 .f32)
    (L : List (View.Piece (Elt Ideal) S128x256 .f32)) (j : ℕ) (hj : j ≤ 4) :
    toSt (d.hist m S L j).2 = along d.seq K W B (toSt S) (16 * j) := by
  induction j with
  | zero => rfl
  | succ j ih =>
    have e : (d.hist m S L (j + 1)).2 = d.state j (d.hist m S L j).2 16 := by
      show again m (d.push j (d.hist m S L j).2 (d.hist m S L j).1) = _
      unfold Dir.push
      rw [again_cons]
      exact shapeCast_self _ _
    rw [e, state_eq H j (by omega) _ 16 (le_refl _), ih (by omega)]
    rw [Nat.mul_succ]
    exact along_add _ _ _ _ _ _ _

/-- The scratch after a point. -/
theorem scratch_eq (H : d.Reads Q K W B) (m : Memref sig .tc .vmem S128x256 .f32) (v : View sig .tc .vmem S128x256 .f32)
    (f : v.ty.Contents (Elt Ideal)) (S : FVec Ideal S128x256 .f32) (L : List (View.Piece (Elt Ideal) S128x256 .f32)) :
    toSt (v.read (Elt Ideal) (v.writes (Elt Ideal) f (d.hist m S L 4).1)) = along d.seq K W B (toSt S) 64 := by
  have e : v.read (Elt Ideal) (v.writes (Elt Ideal) f (d.hist m S L 4).1) = d.state 3 (d.hist m S L 3).2 16 := by
    show v.read (Elt Ideal) (v.writes (Elt Ideal) f (d.push 3 (d.hist m S L 3).2 (d.hist m S L 3).1)) = _
    unfold Dir.push
    exact (read_whole v f _ _).trans (shapeCast_self _ _)
  rw [e, state_eq H 3 (by omega) _ 16 (le_refl _), hist_eq H m S L 3 (by omega)]
  exact along_add _ _ _ _ _ 48 16

/-- The rows of group `j`. -/
theorem out_eq (H : d.Reads Q K W B) (j : ℕ) (hj : j < 4) (S0 : St) (S : FVec Ideal S128x256 .f32)
    (hS : toSt S = along d.seq K W B S0 (16 * j)) (p : Fin 1024) (e : Fin 256) :
    d.out j S (ix2 p e) = rowAt Q (along d.seq K W B S0 (16 * j + d.ord (p.val / 64))) (1024 * d.pos j + p.val) e := by
  have hp := H.pos j hj
  have ho := H.ord (p.val / 64) (by omega)
  have e1 : d.out j S (ix2 p e) = d.item j S (p.val / 64) (ix2 (⟨p.val % 64, Nat.mod_lt _ (by decide)⟩ : Fin 64) e) := by
    refine concatenate_ofFn_apply (t := S1024x256) (s₁ := S64x256) 0 (fun n : Fin 16 => d.item j S n.val)
      concatenates_S64x256_S64x256_S64x256_S64x256_S64x256_S64x256_S64x256_S64x256_S64x256_S64x256_S64x256_S64x256_S64x256_S64x256_S64x256_S64x256_S1024x256_d0 rfl 64 rfl (ix2 p e)
      ⟨p.val / 64, by omega⟩ rfl _ rfl fun ax hax => ?_
    match ax with
    | ⟨0, _⟩ => exact absurd rfl hax
    | ⟨1, _⟩ => rfl
  rw [e1]
  unfold Dir.item
  rw [outV_apply]
  refine Finset.sum_congr rfl fun a _ => ?_
  rw [H.q _ (by omega)]
  have e2 : toSt (d.state j S (d.ord (p.val / 64))) a e = along d.seq K W B S0 (16 * j + d.ord (p.val / 64)) a e := by
    rw [state_eq H j hj _ _ (by omega), hS, along_add]
  have e3 : 64 * (16 * d.pos j + p.val / 64) + p.val % 64 = 1024 * d.pos j + p.val := by omega
  show Q (64 * (16 * d.pos j + p.val / 64) + p.val % 64) a * toSt (d.state j S (d.ord (p.val / 64))) a e = _
  rw [e2, e3]

/-! ## A point's stores -/

theorem block_hit (v : View sig .tc .vmem S4096x256 .bf16) (f : v.ty.Contents (Elt Ideal)) (o : ℕ)
    (inb : ∀ a, (![o, 0] : Fin 2 → ℕ) a + S1024x256.size a ≤ S4096x256.size a) (w : FVec Ideal S1024x256 .bf16)
    (L : List (View.Piece (Elt Ideal) S4096x256 .bf16)) (p : Fin 4096) (e : Fin 256) (y : Fin 1024) (hy : p.val = o + y.val) :
    v.read (Elt Ideal) (v.writes (Elt Ideal) f (⟨Rect.unit ![o, 0] S1024x256.size inb, w⟩ :: L)) (ix2 p e) = w (ix2 y e) := by
  refine View.read_writes_cons_unit_of_mem v f inb w L (ix2 p e) (ix2 y e) rfl fun ax => ?_
  match ax with
  | ⟨0, _⟩ => exact hy
  | ⟨1, _⟩ => show e.val = 0 + e.val; omega

theorem block_miss (v : View sig .tc .vmem S4096x256 .bf16) (f : v.ty.Contents (Elt Ideal)) (o : ℕ)
    (inb : ∀ a, (![o, 0] : Fin 2 → ℕ) a + S1024x256.size a ≤ S4096x256.size a) (w : FVec Ideal S1024x256 .bf16)
    (L : List (View.Piece (Elt Ideal) S4096x256 .bf16)) (p : Fin 4096) (e : Fin 256) (hp : p.val < o ∨ o + 1024 ≤ p.val) :
    v.read (Elt Ideal) (v.writes (Elt Ideal) f (⟨Rect.unit ![o, 0] S1024x256.size inb, w⟩ :: L)) (ix2 p e)
      = v.read (Elt Ideal) (v.writes (Elt Ideal) f L) (ix2 p e) :=
  View.read_writes_cons_unit_of_not_mem v f inb w L (ix2 p e) rfl 0 hp

/-- The first direction's rows at a point. -/
theorem rows_read (H : d.Reads Q K W B) (hp : ∀ j, d.pos j = j) (ho : ∀ s, d.ord s = s) (v : View sig .tc .vmem S4096x256 .bf16)
    (f : v.ty.Contents (Elt Ideal)) (S0 : St) (T : ℕ → FVec Ideal S128x256 .f32) (hT : ∀ j ≤ 4, toSt (T j) = along d.seq K W B S0 (16 * j))
    (p : Fin 4096) (e : Fin 256) :
    v.read (Elt Ideal) (v.writes (Elt Ideal) f (d.rows T)) (ix2 p e) = rowAt Q (along d.seq K W B S0 (p.val / 64)) p.val e := by
  have key : ∀ (j : ℕ) (hj : j < 4) (y : Fin 1024), p.val = 1024 * j + y.val →
      d.out j (T j) (ix2 y e) = rowAt Q (along d.seq K W B S0 (p.val / 64)) p.val e := by
    intro j hj y hy
    rw [out_eq H j hj S0 (T j) (hT j (by omega)), hp, ho, ← hy, show 16 * j + y.val / 64 = p.val / 64 by omega]
  unfold Dir.rows
  by_cases h3 : 3072 ≤ p.val
  · exact (block_hit v f 3072 _ _ _ p e ⟨p.val - 3072, by omega⟩ (by show p.val = 3072 + (p.val - 3072); omega)).trans
      (key 3 (by omega) _ (by show p.val = 1024 * 3 + (p.val - 3072); omega))
  refine (block_miss v f 3072 _ _ _ p e (by omega)).trans ?_
  by_cases h2 : 2048 ≤ p.val
  · exact (block_hit v f 2048 _ _ _ p e ⟨p.val - 2048, by omega⟩ (by show p.val = 2048 + (p.val - 2048); omega)).trans
      (key 2 (by omega) _ (by show p.val = 1024 * 2 + (p.val - 2048); omega))
  refine (block_miss v f 2048 _ _ _ p e (by omega)).trans ?_
  by_cases h1 : 1024 ≤ p.val
  · exact (block_hit v f 1024 _ _ _ p e ⟨p.val - 1024, by omega⟩ (by show p.val = 1024 + (p.val - 1024); omega)).trans
      (key 1 (by omega) _ (by show p.val = 1024 * 1 + (p.val - 1024); omega))
  refine (block_miss v f 1024 _ _ _ p e (by omega)).trans ?_
  exact (block_hit v f 0 _ _ _ p e ⟨p.val, by omega⟩ (by show p.val = 0 + p.val; omega)).trans
    (key 0 (by omega) _ (by show p.val = 1024 * 0 + p.val; omega))

/-- The second direction's rows at a point. -/
theorem rowsBack_read (H : d.Reads Q K W B) (hp : ∀ j, d.pos j = 3 - j) (ho : ∀ s, d.ord s = 15 - s) (v : View sig .tc .vmem S4096x256 .bf16)
    (f : v.ty.Contents (Elt Ideal)) (S0 : St) (T : ℕ → FVec Ideal S128x256 .f32) (hT : ∀ j ≤ 4, toSt (T j) = along d.seq K W B S0 (16 * j))
    (p : Fin 4096) (e : Fin 256) :
    v.read (Elt Ideal) (v.writes (Elt Ideal) f (d.rowsBack T)) (ix2 p e) = rowAt Q (along d.seq K W B S0 (63 - p.val / 64)) p.val e := by
  have key : ∀ (j : ℕ) (hj : j < 4) (y : Fin 1024), p.val = 1024 * (3 - j) + y.val →
      d.out j (T j) (ix2 y e) = rowAt Q (along d.seq K W B S0 (63 - p.val / 64)) p.val e := by
    intro j hj y hy
    rw [out_eq H j hj S0 (T j) (hT j (by omega)), hp, ho, ← hy, show 16 * j + (15 - y.val / 64) = 63 - p.val / 64 by omega]
  unfold Dir.rowsBack
  by_cases h0 : p.val < 1024
  · exact (block_hit v f 0 _ _ _ p e ⟨p.val, h0⟩ (by show p.val = 0 + p.val; omega)).trans
      (key 3 (by omega) _ (by show p.val = 1024 * 0 + p.val; omega))
  refine (block_miss v f 0 _ _ _ p e (by omega)).trans ?_
  by_cases h1 : p.val < 2048
  · exact (block_hit v f 1024 _ _ _ p e ⟨p.val - 1024, by omega⟩ (by show p.val = 1024 + (p.val - 1024); omega)).trans
      (key 2 (by omega) _ (by show p.val = 1024 * 1 + (p.val - 1024); omega))
  refine (block_miss v f 1024 _ _ _ p e (by omega)).trans ?_
  by_cases h2 : p.val < 3072
  · exact (block_hit v f 2048 _ _ _ p e ⟨p.val - 2048, by omega⟩ (by show p.val = 2048 + (p.val - 2048); omega)).trans
      (key 1 (by omega) _ (by show p.val = 1024 * 2 + (p.val - 2048); omega))
  refine (block_miss v f 2048 _ _ _ p e (by omega)).trans ?_
  exact (block_hit v f 3072 _ _ _ p e ⟨p.val - 3072, by omega⟩ (by show p.val = 3072 + (p.val - 3072); omega)).trans
    (key 0 (by omega) _ (by show p.val = 1024 * 3 + (p.val - 3072); omega))

/-! ## The two directions -/

/-- Rows of the blocks a direction reads. -/
structure Rows (x0 x1 : Vec Ideal S1x4096x128 .bf16) (x2 : Vec Ideal S1x4096x256 .bf16) (x3 : Vec Ideal S64x128 .f32)
    (Q K : ℕ → Fin 128 → EReal) (W : ℕ → Fin 256 → EReal) (B : ℕ → Fin 128 → EReal) : Prop where
  q : ∀ (p : Fin 4096) (a : Fin 128), x0 (ix3 (0 : Fin 1) p a) = Q p.val a
  k : ∀ (p : Fin 4096) (a : Fin 128), x1 (ix3 (0 : Fin 1) p a) = K p.val a
  v : ∀ (p : Fin 4096) (a : Fin 256), x2 (ix3 (0 : Fin 1) p a) = W p.val a
  b : ∀ (p : Fin 64) (a : Fin 128), x3 (ix2 p a) = B p.val a

section
variable (a3 : Memref sig .tc .vmem S1x4096x128 .bf16) (h3 : a3.IsWhole) (a4 : Memref sig .tc .vmem S1x4096x128 .bf16) (h4 : a4.IsWhole)
  (a5 : Memref sig .tc .vmem S1x4096x256 .bf16) (h5 : a5.IsWhole) (a6 : Memref sig .tc .vmem S64x128 .f32) (h6 : a6.IsWhole)
  {x0 x1 : Vec Ideal S1x4096x128 .bf16} {x2 : Vec Ideal S1x4096x256 .bf16} {x3 : Vec Ideal S64x128 .f32}

theorem ofNat_val {n : ℕ} [NeZero n] (k : ℕ) (h : k < n) : (Fin.ofNat n k).val = k := Nat.mod_eq_of_lt h

theorem fwd_reads (H : Rows x0 x1 x2 x3 Q K W B) : (fwd a3 h3 a4 h4 a5 h5 a6 h6 x0 x1 x2 x3).Reads Q K W B where
  q n hn r a := (ldK_apply a3 h3 x0 n hn r a).trans ((H.q _ a).trans (by rw [ofNat_val _ (by omega)]))
  k n hn r a := (ldK_apply a4 h4 x1 n hn r a).trans ((H.k _ a).trans (by rw [ofNat_val _ (by omega)]))
  v n hn r a := (ldV_apply a5 h5 x2 n hn r a).trans ((H.v _ a).trans (by rw [ofNat_val _ (by omega)]))
  b n hn r a := (ldD_apply a6 h6 x3 n hn r a).trans ((H.b _ a).trans (by rw [ofNat_val _ (by omega)]))
  pos j hj := hj
  ord s hs := hs

theorem bwd_reads (H : Rows x0 x1 x2 x3 Q K W B) : (bwd a3 h3 a4 h4 a5 h5 a6 h6 x0 x1 x2 x3).Reads Q K W B where
  q n hn r a := (fwd_reads a3 h3 a4 h4 a5 h5 a6 h6 H).q n hn r a
  k n hn r a := (fwd_reads a3 h3 a4 h4 a5 h5 a6 h6 H).k n hn r a
  v n hn r a := (fwd_reads a3 h3 a4 h4 a5 h5 a6 h6 H).v n hn r a
  b n hn r a := (fwd_reads a3 h3 a4 h4 a5 h5 a6 h6 H).b n hn r a
  pos j hj := by show 3 - j < 4; omega
  ord s hs := by show 15 - s < 16; omega

/-- The order is the one of the chunks. -/
theorem fwd_seq (K' : ℕ → Fin 128 → EReal) (W' : ℕ → Fin 256 → EReal) (B' : ℕ → Fin 128 → EReal) (S0 : St) (t : ℕ) :
    along (fwd a3 h3 a4 h4 a5 h5 a6 h6 x0 x1 x2 x3).seq K' W' B' S0 t = along (fun t => t) K' W' B' S0 t := by
  have e : (fwd a3 h3 a4 h4 a5 h5 a6 h6 x0 x1 x2 x3).seq = fun t => t := by
    funext t
    show 16 * (t / 16) + t % 16 = t
    omega
  rw [e]

/-- The order is the chunks' from the last. -/
theorem bwd_seq (K' : ℕ → Fin 128 → EReal) (W' : ℕ → Fin 256 → EReal) (B' : ℕ → Fin 128 → EReal) (S0 : St) (t : ℕ) (ht : t ≤ 64) :
    along (bwd a3 h3 a4 h4 a5 h5 a6 h6 x0 x1 x2 x3).seq K' W' B' S0 t = along (fun t => 63 - t) K' W' B' S0 t := by
  have e : ∀ u < t, (bwd a3 h3 a4 h4 a5 h5 a6 h6 x0 x1 x2 x3).seq u = 63 - u := by
    intro u hu
    show 16 * (3 - u / 16) + (15 - u % 16) = 63 - u
    omega
  exact chain_congr S0 t (fun u hu => by rw [e u hu]) (fun u hu => by rw [e u hu])

/-! ## A point goes on from the one before -/

variable (a : Memref sig .tc .vmem S128x256 .f32) (S : FVec Ideal S128x256 .f32) (L : List (View.Piece (Elt Ideal) S128x256 .f32)) (S0 : St)

theorem fwd_scratch (q : ℕ) (H : Rows x0 x1 x2 x3 (shift (64 * q) Q) (shift (64 * q) K) (shift (64 * q) W) (shift q B))
    (hS : toSt S = along (fun t => t) K W B S0 q) (v : View sig .tc .vmem S128x256 .f32) (f : v.ty.Contents (Elt Ideal)) :
    toSt (v.read (Elt Ideal) (v.writes (Elt Ideal) f ((fwd a3 h3 a4 h4 a5 h5 a6 h6 x0 x1 x2 x3).hist a S L 4).1))
      = along (fun t => t) K W B S0 (q + 64) := by
  rw [scratch_eq (fwd_reads a3 h3 a4 h4 a5 h5 a6 h6 H) a v f S L, fwd_seq, hS]
  exact along_shift _ _ K W B S0 q q 64 fun t _ => rfl

theorem fwd_rows (q : ℕ) (H : Rows x0 x1 x2 x3 (shift (64 * q) Q) (shift (64 * q) K) (shift (64 * q) W) (shift q B))
    (hS : toSt S = along (fun t => t) K W B S0 q) (v : View sig .tc .vmem S4096x256 .bf16) (f : v.ty.Contents (Elt Ideal))
    (p : Fin 4096) (e : Fin 256) :
    v.read (Elt Ideal) (v.writes (Elt Ideal) f ((fwd a3 h3 a4 h4 a5 h5 a6 h6 x0 x1 x2 x3).rows fun j =>
      ((fwd a3 h3 a4 h4 a5 h5 a6 h6 x0 x1 x2 x3).hist a S L j).2)) (ix2 p e)
      = rowAt Q (along (fun t => t) K W B S0 (q + p.val / 64)) (64 * q + p.val) e := by
  have R := fwd_reads a3 h3 a4 h4 a5 h5 a6 h6 H
  rw [rows_read R (fun _ => rfl) (fun _ => rfl) v f (toSt S) _ (fun j hj => hist_eq R a S L j hj) p e, fwd_seq, hS,
    along_shift (fun t => t) (fun t => t) K W B S0 q q _ fun t _ => rfl]
  rfl

theorem bwd_scratch (q u : ℕ) (hq : q + u = 64) (H : Rows x0 x1 x2 x3 (shift (64 * q) Q) (shift (64 * q) K) (shift (64 * q) W) (shift q B))
    (hS : toSt S = along (fun t => 127 - t) K W B S0 u) (v : View sig .tc .vmem S128x256 .f32) (f : v.ty.Contents (Elt Ideal)) :
    toSt (v.read (Elt Ideal) (v.writes (Elt Ideal) f ((bwd a3 h3 a4 h4 a5 h5 a6 h6 x0 x1 x2 x3).hist a S L 4).1))
      = along (fun t => 127 - t) K W B S0 (u + 64) := by
  rw [scratch_eq (bwd_reads a3 h3 a4 h4 a5 h5 a6 h6 H) a v f S L, bwd_seq _ _ _ _ _ _ _ _ _ _ _ _ _ (le_refl _), hS]
  exact along_shift _ _ K W B S0 q u 64 fun t _ => by omega

theorem bwd_rows (q u : ℕ) (hq : q + u = 64) (H : Rows x0 x1 x2 x3 (shift (64 * q) Q) (shift (64 * q) K) (shift (64 * q) W) (shift q B))
    (hS : toSt S = along (fun t => 127 - t) K W B S0 u) (v : View sig .tc .vmem S4096x256 .bf16) (f : v.ty.Contents (Elt Ideal))
    (p : Fin 4096) (e : Fin 256) :
    v.read (Elt Ideal) (v.writes (Elt Ideal) f ((bwd a3 h3 a4 h4 a5 h5 a6 h6 x0 x1 x2 x3).rowsBack fun j =>
      ((bwd a3 h3 a4 h4 a5 h5 a6 h6 x0 x1 x2 x3).hist a S L j).2)) (ix2 p e)
      = rowAt Q (along (fun t => 127 - t) K W B S0 (u + (63 - p.val / 64))) (64 * q + p.val) e := by
  have R := bwd_reads a3 h3 a4 h4 a5 h5 a6 h6 H
  rw [rowsBack_read R (fun _ => rfl) (fun _ => rfl) v f (toSt S) _ (fun j hj => hist_eq R a S L j hj) p e,
    bwd_seq _ _ _ _ _ _ _ _ _ _ _ _ _ (by omega), hS, along_shift (fun t => 63 - t) (fun t => 127 - t) K W B S0 q u _ fun t _ => by omega]
  rfl

/-- The state a sequence of points starts from. -/
theorem start_eq (a11 : Memref sig .tc .vmem S1x64x128 .bf16) (h11 : a11.IsWhole) (a12 : Memref sig .tc .vmem S1x64x256 .bf16) (h12 : a12.IsWhole)
    (x8 : Vec Ideal S1x64x128 .bf16) (x9 : Vec Ideal S1x64x256 .bf16) (i : Fin 128) (e : Fin 256) :
    toSt (again a (whole (initV a11 h11 a12 h12 x8 x9))) i e
      = ∑ r : Fin 64, (x8 (ix3 (0 : Fin 1) r i) : EReal) * x9 (ix3 (0 : Fin 1) r e) := by
  unfold whole
  rw [again_cons]
  unfold initV
  rw [View.readAt_full, View.readAt_full, h11.read_unread, h12.read_unread]
  exact initV_apply x8 x9 i e

/-- The second direction's starts from zero. -/
theorem zero_eq (i : Fin 128) (e : Fin 256) : toSt (again a (whole (k0_pay6 (F := Ideal)))) i e = 0 := by
  unfold whole
  rw [again_cons]
  have z : k0_pay6 (F := Ideal) = broadcast S128x256 (Scalar.ofBits (F := Ideal) .f32 0x00000000#32) := shapeCast_self _ _
  rw [z]
  exact IdealRules.sign_bit.ideal_zero .f32

end

end Cert.Scan

end
-- ==== Proof.ScanValue.lean ====
/-
  The scan's kernel over its whole grid: the host's transposes, reshapes and joins in front of it read index by index, the
  blocks of each grid point placed in those arrays, and the two points of a sequence and head taken one after the other.
-/
module

public import proofs.«01_k».proof.Proof.ScanStep
public import Idealize.ShloMosaic.Lib.StableHlo.ReadAt

@[expose] public section

noncomputable section

namespace Cert.Scan

open Cert.KernelIdeal Cert.KernelIdeal.Gen Idealize.ShloMosaic.TcCoe Idealize.ShloMosaic.ValueIdx Idealize.SL.Sem
open Idealize.ShloMosaic hiding ix2 ix3 ix4 eq_ix2 addf_apply mulf_apply

variable (m : (ℓ : Loc nD τ sig) → Buf (Elt Ideal) ℓ) (c : Dev nD)

/-! ## The arrays the host hands the kernel -/

/-- The sequence and the token of a row. -/
def seqR (r : Fin 16384) : Fin 2 := ⟨r.val / 8192, by omega⟩
def tokR (r : Fin 16384) : Fin 8192 := ⟨r.val % 8192, Nat.mod_lt _ (by decide)⟩

/-- The first direction's queries. -/
theorem qf_at (h : Fin 4) (H : Fin 8) (hH : H.val = h.val) (r : Fin 16384) (k : Fin 128) :
    V m c main_v5 (ix3 H r k) = m ((c : Thread nD τ).loc main_arg0) (ix4 (seqR r) h (tokR r) k) := by
  unfold V; after_reads_at
  refine (dif_pos (show H.val < 4 by omega)).trans ?_
  after_reads_at
  exact congrArg (fun z => m ((c : Thread nD τ).loc main_arg0) (ix4 (seqR r) z (tokR r) k)) (Fin.ext hH)

/-- The second direction's queries. -/
theorem qb_at (h : Fin 4) (H : Fin 8) (hH : H.val = 4 + h.val) (r : Fin 16384) (k : Fin 128) :
    V m c main_v5 (ix3 H r k) = m ((c : Thread nD τ).loc main_arg1) (ix4 (seqR r) h (tokR r) k) := by
  unfold V; after_reads_at
  refine (dif_neg (show ¬ H.val < 4 by omega)).trans ?_
  after_reads_at
  exact congrArg (fun z => m ((c : Thread nD τ).loc main_arg1) (ix4 (seqR r) z (tokR r) k)) (Fin.ext (by show H.val - 4 = h.val; omega))

/-- The first direction's keys. -/
theorem kf_at (h : Fin 4) (H : Fin 8) (hH : H.val = h.val) (r : Fin 16384) (k : Fin 128) :
    V m c main_v11 (ix3 H r k) = m ((c : Thread nD τ).loc main_arg2) (ix4 (seqR r) h (tokR r) k) := by
  unfold V; after_reads_at
  refine (dif_pos (show H.val < 4 by omega)).trans ?_
  after_reads_at
  exact congrArg (fun z => m ((c : Thread nD τ).loc main_arg2) (ix4 (seqR r) z (tokR r) k)) (Fin.ext hH)

/-- The second direction's keys. -/
theorem kb_at (h : Fin 4) (H : Fin 8) (hH : H.val = 4 + h.val) (r : Fin 16384) (k : Fin 128) :
    V m c main_v11 (ix3 H r k) = m ((c : Thread nD τ).loc main_arg3) (ix4 (seqR r) h (tokR r) k) := by
  unfold V; after_reads_at
  refine (dif_neg (show ¬ H.val < 4 by omega)).trans ?_
  after_reads_at
  exact congrArg (fun z => m ((c : Thread nD τ).loc main_arg3) (ix4 (seqR r) z (tokR r) k)) (Fin.ext (by show H.val - 4 = h.val; omega))

/-- The values. -/
theorem v_at (h : Fin 4) (r : Fin 16384) (k : Fin 256) :
    V m c main_v14 (ix3 h r k) = m ((c : Thread nD τ).loc main_arg4) (ix4 (seqR r) h (tokR r) k) := by
  unfold V; after_reads_at; rfl

/-- The first direction's decay exponents. -/
theorem bf_at (h : Fin 4) (r : Fin 256) (k : Fin 128) (C : Fin 1024) (hC : C.val = 128 * h.val + k.val) :
    V m c main_v19 (ix2 r C) = m ((c : Thread nD τ).loc main_arg5) (ix4 (⟨r.val / 128, by omega⟩ : Fin 2) h (⟨r.val % 128, Nat.mod_lt _ (by decide)⟩ : Fin 128) k) := by
  unfold V; after_reads_at
  refine (dif_pos (show C.val < 512 by omega)).trans ?_
  refine congrArg (m ((c : Thread nD τ).loc main_arg5)) ?_
  funext a; apply Fin.ext
  match a with
  | ⟨0, _⟩ => rfl
  | ⟨1, _⟩ => show C.val / 128 = h.val; omega
  | ⟨2, _⟩ => rfl
  | ⟨3, _⟩ => show C.val % 128 = k.val; omega

/-- The second direction's decay exponents. -/
theorem bb_at (h : Fin 4) (r : Fin 256) (k : Fin 128) (C : Fin 1024) (hC : C.val = 512 + 128 * h.val + k.val) :
    V m c main_v19 (ix2 r C) = m ((c : Thread nD τ).loc main_arg6) (ix4 (⟨r.val / 128, by omega⟩ : Fin 2) h (⟨r.val % 128, Nat.mod_lt _ (by decide)⟩ : Fin 128) k) := by
  unfold V; after_reads_at
  refine (dif_neg (show ¬ C.val < 512 by omega)).trans ?_
  refine congrArg (m ((c : Thread nD τ).loc main_arg6)) ?_
  funext a; apply Fin.ext
  match a with
  | ⟨0, _⟩ => rfl
  | ⟨1, _⟩ => show (C.val - 512) / 128 = h.val; omega
  | ⟨2, _⟩ => rfl
  | ⟨3, _⟩ => show (C.val - 512) % 128 = k.val; omega

/-- The boundary rows. -/
theorem km_at (h : Fin 4) (r : Fin 64) (k : Fin 128) : V m c main_v20 (ix3 h r k) = m ((c : Thread nD τ).loc main_arg7) (ix3 h r k) := by
  unfold V; after_reads_at

theorem vm_at (h : Fin 4) (r : Fin 64) (k : Fin 256) : V m c main_v21 (ix3 h r k) = m ((c : Thread nD τ).loc main_arg8) (ix3 h r k) := by
  unfold V; after_reads_at

/-! ## The blocks of a grid point -/

/-- The sequence, the head and the half of the sequence of a grid point. -/
def bOf (t : Fin cfg0.N) : Fin 2 := ⟨t.val / 8, by have : t.val < 16 := t.isLt; omega⟩
def hOf (t : Fin cfg0.N) : Fin 4 := ⟨t.val / 2 % 4, by omega⟩

theorem index_fwd : ∀ t : Fin cfg0.N,
    win0_0.index t = ![t.val / 2 % 4, t.val / 8 * 2 + t.val % 2, 0] ∧ win0_1.index t = ![t.val / 2 % 4, t.val / 8 * 2 + t.val % 2, 0]
    ∧ win0_2.index t = ![t.val / 2 % 4, t.val / 8 * 2 + t.val % 2, 0] ∧ win0_3.index t = ![t.val / 8 * 2 + t.val % 2, t.val / 2 % 4]
    ∧ win0_10.index t = ![t.val / 8 * 2 + t.val % 2, t.val / 2 % 4] :=
  (by decide +kernel : ∀ t : Fin grid0.N,
    win0_0.index t = ![t.val / 2 % 4, t.val / 8 * 2 + t.val % 2, 0] ∧ win0_1.index t = ![t.val / 2 % 4, t.val / 8 * 2 + t.val % 2, 0]
    ∧ win0_2.index t = ![t.val / 2 % 4, t.val / 8 * 2 + t.val % 2, 0] ∧ win0_3.index t = ![t.val / 8 * 2 + t.val % 2, t.val / 2 % 4]
    ∧ win0_10.index t = ![t.val / 8 * 2 + t.val % 2, t.val / 2 % 4])

theorem index_bwd : ∀ t : Fin cfg0.N,
    win0_4.index t = ![4 + t.val / 2 % 4, t.val / 8 * 2 + (1 - t.val % 2), 0] ∧ win0_5.index t = ![4 + t.val / 2 % 4, t.val / 8 * 2 + (1 - t.val % 2), 0]
    ∧ win0_6.index t = ![t.val / 2 % 4, t.val / 8 * 2 + (1 - t.val % 2), 0] ∧ win0_7.index t = ![t.val / 8 * 2 + (1 - t.val % 2), 4 + t.val / 2 % 4]
    ∧ win0_11.index t = ![t.val / 8 * 2 + (1 - t.val % 2), t.val / 2 % 4] :=
  (by decide +kernel : ∀ t : Fin grid0.N,
    win0_4.index t = ![4 + t.val / 2 % 4, t.val / 8 * 2 + (1 - t.val % 2), 0] ∧ win0_5.index t = ![4 + t.val / 2 % 4, t.val / 8 * 2 + (1 - t.val % 2), 0]
    ∧ win0_6.index t = ![t.val / 2 % 4, t.val / 8 * 2 + (1 - t.val % 2), 0] ∧ win0_7.index t = ![t.val / 8 * 2 + (1 - t.val % 2), 4 + t.val / 2 % 4]
    ∧ win0_11.index t = ![t.val / 8 * 2 + (1 - t.val % 2), t.val / 2 % 4])

theorem index_meta : ∀ t : Fin cfg0.N, win0_8.index t = ![t.val / 2 % 4, 0, 0] ∧ win0_9.index t = ![t.val / 2 % 4, 0, 0] :=
  (by decide +kernel : ∀ t : Fin grid0.N, win0_8.index t = ![t.val / 2 % 4, 0, 0] ∧ win0_9.index t = ![t.val / 2 % 4, 0, 0])

/-- A row of a sequence, as a row of all of them. -/
theorem row_split {d : ℕ} (X : (⟨4, ![2, 4, 8192, d]⟩ : Shape).Idx → EReal) (b : Fin 2) (h : Fin 4) (s : ℕ) (hs : s < 8192) (k : Fin d)
    (r : Fin 16384) (hr : r.val = 8192 * b.val + s) : X (ix4 (seqR r) h (tokR r) k) = rowsOf X b h s k := by
  have e0 : seqR r = b := Fin.ext (by show r.val / 8192 = b.val; omega)
  have e1 : tokR r = Fin.ofNat 8192 s := Fin.ext (by show r.val % 8192 = s % 8192; omega)
  unfold rowsOf
  rw [e0, e1]

/-- Where a block's rows lie. -/
theorem place_row (b u p : ℕ) : (b * 2 + u) * 4096 + p = 8192 * b + (4096 * u + p) := by omega
theorem place_chunk (b u p : ℕ) : (b * 2 + u) * 64 + p = 128 * b + (64 * u + p) := by omega

/-- The first direction's queries at a point. -/
theorem blk0 (t : Fin cfg0.N) (p : Fin 4096) (k : Fin 128) :
    iblk m c 0 t (ix3 (0 : Fin 1) p k) = rowsOf (m ((c : Thread nD τ).loc main_arg0)) (bOf t) (hOf t) (4096 * (t.val % 2) + p.val) k := by
  have ht : t.val < 16 := t.isLt
  have e := (index_fwd t).1
  refine Eq.trans ?_ ((qf_at m c (hOf t) ⟨t.val / 2 % 4, by omega⟩ rfl ⟨8192 * (t.val / 8) + (4096 * (t.val % 2) + p.val), by omega⟩ k).trans
    (row_split _ (bOf t) (hOf t) (4096 * (t.val % 2) + p.val) (by omega) k _ rfl))
  blk_simp [iblk]
  refine congrArg (V m c main_v5) ?_
  have h1 : (t.val / 8 * 2 + t.val % 2) * 4096 + p.val = 8192 * (t.val / 8) + (4096 * (t.val % 2) + p.val) := place_row _ _ _
  funext a; apply Fin.ext
  match a with
  | ⟨0, _⟩ => blk_simp [e]; try rfl
  | ⟨1, _⟩ => blk_simp [e]; exact h1
  | ⟨2, _⟩ => blk_simp [e]

/-- The first direction's keys. -/
theorem blk1 (t : Fin cfg0.N) (p : Fin 4096) (k : Fin 128) :
    iblk m c 1 t (ix3 (0 : Fin 1) p k) = rowsOf (m ((c : Thread nD τ).loc main_arg2)) (bOf t) (hOf t) (4096 * (t.val % 2) + p.val) k := by
  have ht : t.val < 16 := t.isLt
  have e := (index_fwd t).2.1
  refine Eq.trans ?_ ((kf_at m c (hOf t) ⟨t.val / 2 % 4, by omega⟩ rfl ⟨8192 * (t.val / 8) + (4096 * (t.val % 2) + p.val), by omega⟩ k).trans
    (row_split _ (bOf t) (hOf t) (4096 * (t.val % 2) + p.val) (by omega) k _ rfl))
  blk_simp [iblk]
  refine congrArg (V m c main_v11) ?_
  have h1 : (t.val / 8 * 2 + t.val % 2) * 4096 + p.val = 8192 * (t.val / 8) + (4096 * (t.val % 2) + p.val) := place_row _ _ _
  funext a; apply Fin.ext
  match a with
  | ⟨0, _⟩ => blk_simp [e]; try rfl
  | ⟨1, _⟩ => blk_simp [e]; exact h1
  | ⟨2, _⟩ => blk_simp [e]

/-- The first direction's values. -/
theorem blk2 (t : Fin cfg0.N) (p : Fin 4096) (k : Fin 256) :
    iblk m c 2 t (ix3 (0 : Fin 1) p k) = rowsOf (m ((c : Thread nD τ).loc main_arg4)) (bOf t) (hOf t) (4096 * (t.val % 2) + p.val) k := by
  have ht : t.val < 16 := t.isLt
  have e := (index_fwd t).2.2.1
  refine Eq.trans ?_ ((v_at m c (hOf t) ⟨8192 * (t.val / 8) + (4096 * (t.val % 2) + p.val), by omega⟩ k).trans
    (row_split _ (bOf t) (hOf t) (4096 * (t.val % 2) + p.val) (by omega) k _ rfl))
  blk_simp [iblk]
  refine congrArg (V m c main_v14) ?_
  have h1 : (t.val / 8 * 2 + t.val % 2) * 4096 + p.val = 8192 * (t.val / 8) + (4096 * (t.val % 2) + p.val) := place_row _ _ _
  funext a; apply Fin.ext
  match a with
  | ⟨0, _⟩ => blk_simp [e]; try rfl
  | ⟨1, _⟩ => blk_simp [e]; exact h1
  | ⟨2, _⟩ => blk_simp [e]

/-- The second direction's queries at a point. -/
theorem blk4 (t : Fin cfg0.N) (p : Fin 4096) (k : Fin 128) :
    iblk m c 4 t (ix3 (0 : Fin 1) p k) = rowsOf (m ((c : Thread nD τ).loc main_arg1)) (bOf t) (hOf t) (4096 * (1 - t.val % 2) + p.val) k := by
  have ht : t.val < 16 := t.isLt
  have e := (index_bwd t).1
  refine Eq.trans ?_ ((qb_at m c (hOf t) ⟨4 + t.val / 2 % 4, by omega⟩ rfl ⟨8192 * (t.val / 8) + (4096 * (1 - t.val % 2) + p.val), by omega⟩ k).trans
    (row_split _ (bOf t) (hOf t) (4096 * (1 - t.val % 2) + p.val) (by omega) k _ rfl))
  blk_simp [iblk]
  refine congrArg (V m c main_v5) ?_
  have h1 : (t.val / 8 * 2 + (1 - t.val % 2)) * 4096 + p.val = 8192 * (t.val / 8) + (4096 * (1 - t.val % 2) + p.val) := place_row _ _ _
  funext a; apply Fin.ext
  match a with
  | ⟨0, _⟩ => blk_simp [e]; try rfl
  | ⟨1, _⟩ => blk_simp [e]; exact h1
  | ⟨2, _⟩ => blk_simp [e]

/-- The second direction's keys. -/
theorem blk5 (t : Fin cfg0.N) (p : Fin 4096) (k : Fin 128) :
    iblk m c 5 t (ix3 (0 : Fin 1) p k) = rowsOf (m ((c : Thread nD τ).loc main_arg3)) (bOf t) (hOf t) (4096 * (1 - t.val % 2) + p.val) k := by
  have ht : t.val < 16 := t.isLt
  have e := (index_bwd t).2.1
  refine Eq.trans ?_ ((kb_at m c (hOf t) ⟨4 + t.val / 2 % 4, by omega⟩ rfl ⟨8192 * (t.val / 8) + (4096 * (1 - t.val % 2) + p.val), by omega⟩ k).trans
    (row_split _ (bOf t) (hOf t) (4096 * (1 - t.val % 2) + p.val) (by omega) k _ rfl))
  blk_simp [iblk]
  refine congrArg (V m c main_v11) ?_
  have h1 : (t.val / 8 * 2 + (1 - t.val % 2)) * 4096 + p.val = 8192 * (t.val / 8) + (4096 * (1 - t.val % 2) + p.val) := place_row _ _ _
  funext a; apply Fin.ext
  match a with
  | ⟨0, _⟩ => blk_simp [e]; try rfl
  | ⟨1, _⟩ => blk_simp [e]; exact h1
  | ⟨2, _⟩ => blk_simp [e]

/-- The second direction's values. -/
theorem blk6 (t : Fin cfg0.N) (p : Fin 4096) (k : Fin 256) :
    iblk m c 6 t (ix3 (0 : Fin 1) p k) = rowsOf (m ((c : Thread nD τ).loc main_arg4)) (bOf t) (hOf t) (4096 * (1 - t.val % 2) + p.val) k := by
  have ht : t.val < 16 := t.isLt
  have e := (index_bwd t).2.2.1
  refine Eq.trans ?_ ((v_at m c (hOf t) ⟨8192 * (t.val / 8) + (4096 * (1 - t.val % 2) + p.val), by omega⟩ k).trans
    (row_split _ (bOf t) (hOf t) (4096 * (1 - t.val % 2) + p.val) (by omega) k _ rfl))
  blk_simp [iblk]
  refine congrArg (V m c main_v14) ?_
  have h1 : (t.val / 8 * 2 + (1 - t.val % 2)) * 4096 + p.val = 8192 * (t.val / 8) + (4096 * (1 - t.val % 2) + p.val) := place_row _ _ _
  funext a; apply Fin.ext
  match a with
  | ⟨0, _⟩ => blk_simp [e]; try rfl
  | ⟨1, _⟩ => blk_simp [e]; exact h1
  | ⟨2, _⟩ => blk_simp [e]

/-- The first direction's decay exponents. -/
theorem blk3 (t : Fin cfg0.N) (p : Fin 64) (k : Fin 128) :
    iblk m c 3 t (ix2 p k) = rowsOf (m ((c : Thread nD τ).loc main_arg5)) (bOf t) (hOf t) (64 * (t.val % 2) + p.val) k := by
  have ht : t.val < 16 := t.isLt
  have e := (index_fwd t).2.2.2.1
  have g : ∀ (x : Fin 2) (y : Fin 128), x = bOf t → y = Fin.ofNat 128 (64 * (t.val % 2) + p.val) →
      m ((c : Thread nD τ).loc main_arg5) (ix4 x (hOf t) y k) = rowsOf (m ((c : Thread nD τ).loc main_arg5)) (bOf t) (hOf t) (64 * (t.val % 2) + p.val) k := by
    rintro _ _ rfl rfl; rfl
  refine Eq.trans ?_ ((bf_at m c (hOf t) ⟨128 * (t.val / 8) + (64 * (t.val % 2) + p.val), by omega⟩ k ⟨128 * (t.val / 2 % 4) + k.val, by omega⟩ rfl).trans
    (g _ _ (Fin.ext (by show (128 * (t.val / 8) + (64 * (t.val % 2) + p.val)) / 128 = t.val / 8; omega))
      (Fin.ext (by show (128 * (t.val / 8) + (64 * (t.val % 2) + p.val)) % 128 = (64 * (t.val % 2) + p.val) % 128; omega))))
  blk_simp [iblk]
  refine congrArg (V m c main_v19) ?_
  have h0 : (t.val / 8 * 2 + t.val % 2) * 64 + p.val = 128 * (t.val / 8) + (64 * (t.val % 2) + p.val) := place_chunk _ _ _
  have h1 : (t.val / 2 % 4) * 128 + k.val = 128 * (t.val / 2 % 4) + k.val := by omega
  funext a; apply Fin.ext
  match a with
  | ⟨0, _⟩ => blk_simp [e]; exact h0
  | ⟨1, _⟩ => blk_simp [e]; exact h1

/-- The second direction's decay exponents. -/
theorem blk7 (t : Fin cfg0.N) (p : Fin 64) (k : Fin 128) :
    iblk m c 7 t (ix2 p k) = rowsOf (m ((c : Thread nD τ).loc main_arg6)) (bOf t) (hOf t) (64 * (1 - t.val % 2) + p.val) k := by
  have ht : t.val < 16 := t.isLt
  have e := (index_bwd t).2.2.2.1
  have g : ∀ (x : Fin 2) (y : Fin 128), x = bOf t → y = Fin.ofNat 128 (64 * (1 - t.val % 2) + p.val) →
      m ((c : Thread nD τ).loc main_arg6) (ix4 x (hOf t) y k) = rowsOf (m ((c : Thread nD τ).loc main_arg6)) (bOf t) (hOf t) (64 * (1 - t.val % 2) + p.val) k := by
    rintro _ _ rfl rfl; rfl
  refine Eq.trans ?_ ((bb_at m c (hOf t) ⟨128 * (t.val / 8) + (64 * (1 - t.val % 2) + p.val), by omega⟩ k ⟨512 + 128 * (t.val / 2 % 4) + k.val, by omega⟩ rfl).trans
    (g _ _ (Fin.ext (by show (128 * (t.val / 8) + (64 * (1 - t.val % 2) + p.val)) / 128 = t.val / 8; omega))
      (Fin.ext (by show (128 * (t.val / 8) + (64 * (1 - t.val % 2) + p.val)) % 128 = (64 * (1 - t.val % 2) + p.val) % 128; omega))))
  blk_simp [iblk]
  refine congrArg (V m c main_v19) ?_
  have h0 : (t.val / 8 * 2 + (1 - t.val % 2)) * 64 + p.val = 128 * (t.val / 8) + (64 * (1 - t.val % 2) + p.val) := place_chunk _ _ _
  have h1 : (4 + t.val / 2 % 4) * 128 + k.val = 512 + 128 * (t.val / 2 % 4) + k.val := by omega
  funext a; apply Fin.ext
  match a with
  | ⟨0, _⟩ => blk_simp [e]; exact h0
  | ⟨1, _⟩ => blk_simp [e]; exact h1

/-- The boundary rows' keys. -/
theorem blk8 (t : Fin cfg0.N) (r : Fin 64) (k : Fin 128) :
    iblk m c 8 t (ix3 (0 : Fin 1) r k) = m ((c : Thread nD τ).loc main_arg7) (ix3 (hOf t) r k) := by
  have e := (index_meta t).1
  refine Eq.trans ?_ (km_at m c (hOf t) r k)
  blk_simp [iblk]
  refine congrArg (V m c main_v20) ?_
  funext a; apply Fin.ext
  match a with
  | ⟨0, _⟩ => blk_simp [e]; try rfl
  | ⟨1, _⟩ => blk_simp [e]
  | ⟨2, _⟩ => blk_simp [e]

/-- The boundary rows' values. -/
theorem blk9 (t : Fin cfg0.N) (r : Fin 64) (k : Fin 256) :
    iblk m c 9 t (ix3 (0 : Fin 1) r k) = m ((c : Thread nD τ).loc main_arg8) (ix3 (hOf t) r k) := by
  have e := (index_meta t).2
  refine Eq.trans ?_ (vm_at m c (hOf t) r k)
  blk_simp [iblk]
  refine congrArg (V m c main_v21) ?_
  funext a; apply Fin.ext
  match a with
  | ⟨0, _⟩ => blk_simp [e]; try rfl
  | ⟨1, _⟩ => blk_simp [e]
  | ⟨2, _⟩ => blk_simp [e]

/-! ## The states and rows of the points -/

/-- The first direction's state after `n` chunks of a sequence and head. -/
def stF (b : Fin 2) (h : Fin 4) (n : ℕ) : St :=
  along (fun t => t) (rowsOf (m ((c : Thread nD τ).loc main_arg2)) b h) (rowsOf (m ((c : Thread nD τ).loc main_arg4)) b h) (rowsOf (m ((c : Thread nD τ).loc main_arg5)) b h) (start (m ((c : Thread nD τ).loc main_arg7)) (m ((c : Thread nD τ).loc main_arg8)) h) n

/-- The second direction's. -/
def stB (b : Fin 2) (h : Fin 4) (n : ℕ) : St :=
  along (fun t => 127 - t) (rowsOf (m ((c : Thread nD τ).loc main_arg3)) b h) (rowsOf (m ((c : Thread nD τ).loc main_arg4)) b h) (rowsOf (m ((c : Thread nD τ).loc main_arg6)) b h) (fun _ _ => 0) n

theorem rowsF (t : Fin cfg0.N) (q : ℕ) (hq : q = 64 * (t.val % 2)) :
    Rows (iblk m c 0 t) (iblk m c 1 t) (iblk m c 2 t) (iblk m c 3 t) (shift (64 * q) (rowsOf (m ((c : Thread nD τ).loc main_arg0)) (bOf t) (hOf t)))
      (shift (64 * q) (rowsOf (m ((c : Thread nD τ).loc main_arg2)) (bOf t) (hOf t))) (shift (64 * q) (rowsOf (m ((c : Thread nD τ).loc main_arg4)) (bOf t) (hOf t)))
      (shift q (rowsOf (m ((c : Thread nD τ).loc main_arg5)) (bOf t) (hOf t))) := by
  have e : 64 * q = 4096 * (t.val % 2) := by omega
  rw [e, hq]
  exact ⟨blk0 m c t, blk1 m c t, blk2 m c t, blk3 m c t⟩

theorem rowsB (t : Fin cfg0.N) (q : ℕ) (hq : q = 64 * (1 - t.val % 2)) :
    Rows (iblk m c 4 t) (iblk m c 5 t) (iblk m c 6 t) (iblk m c 7 t) (shift (64 * q) (rowsOf (m ((c : Thread nD τ).loc main_arg1)) (bOf t) (hOf t)))
      (shift (64 * q) (rowsOf (m ((c : Thread nD τ).loc main_arg3)) (bOf t) (hOf t))) (shift (64 * q) (rowsOf (m ((c : Thread nD τ).loc main_arg4)) (bOf t) (hOf t)))
      (shift q (rowsOf (m ((c : Thread nD τ).loc main_arg6)) (bOf t) (hOf t))) := by
  have e : 64 * q = 4096 * (1 - t.val % 2) := by omega
  rw [e, hq]
  exact ⟨blk4 m c t, blk5 m c t, blk6 m c t, blk7 m c t⟩

/-- A sequence's first point starts the first direction from the boundary rows. -/
theorem startF (t : Fin cfg0.N) (a : Memref sig .tc .vmem S128x256 .f32) (a11 : Memref sig .tc .vmem S1x64x128 .bf16) (h11 : a11.IsWhole)
    (a12 : Memref sig .tc .vmem S1x64x256 .bf16) (h12 : a12.IsWhole) :
    toSt (again a (whole (initV a11 h11 a12 h12 (iblk m c 8 t) (iblk m c 9 t)))) = stF m c (bOf t) (hOf t) 0 := by
  funext i e
  refine (start_eq a a11 h11 a12 h12 _ _ i e).trans ?_
  show _ = start _ _ (hOf t) i e
  unfold start
  refine Finset.sum_congr rfl fun r _ => ?_
  exact congrArg₂ (fun x y : EReal => x * y) (blk8 m c t r i) (blk9 m c t r e)

theorem startB (t : Fin cfg0.N) (a : Memref sig .tc .vmem S128x256 .f32) :
    toSt (again a (whole (k0_pay6 (F := Ideal)))) = stB m c (bOf t) (hOf t) 0 := by
  funext i e
  exact zero_eq a i e

/-- The scratches after a sequence's first point. -/
theorem scratchF_A (t : Fin cfg0.N) (h0 : t.val % 2 = 0) : toSt (outsAt0 m c t.val t.isLt).2.2.1 = stF m c (bOf t) (hOf t) 64 := by
  rw [outsAt0_A m c t h0]
  dsimp only
  unfold sout0_A_0
  rw [run_A_s0]
  exact fwd_scratch _ _ _ _ _ _ _ _ _ _ _ _ 0 (rowsF m c t 0 (by omega)) (startF m c t _ _ _ _ _) _ _

theorem scratchB_A (t : Fin cfg0.N) (h0 : t.val % 2 = 0) : toSt (outsAt0 m c t.val t.isLt).2.2.2 = stB m c (bOf t) (hOf t) 64 := by
  rw [outsAt0_A m c t h0]
  dsimp only
  unfold sout0_A_1
  rw [run_A_s1]
  exact bwd_scratch _ _ _ _ _ _ _ _ _ _ _ _ 64 0 rfl (rowsB m c t 64 (by omega)) (startB m c t _) _ _

/-- The rows of a sequence's first point. -/
theorem outF_A (t : Fin cfg0.N) (h0 : t.val % 2 = 0) (p : Fin 4096) (e : Fin 256) :
    (outsAt0 m c t.val t.isLt).1 (ix2 p e)
      = rowAt (rowsOf (m ((c : Thread nD τ).loc main_arg0)) (bOf t) (hOf t)) (stF m c (bOf t) (hOf t) (0 + p.val / 64)) (64 * 0 + p.val) e := by
  rw [outsAt0_A m c t h0]
  dsimp only
  unfold out0_A_10
  rw [run_A_o0]
  exact fwd_rows _ _ _ _ _ _ _ _ _ _ _ _ 0 (rowsF m c t 0 (by omega)) (startF m c t _ _ _ _ _) _ _ p e

theorem outB_A (t : Fin cfg0.N) (h0 : t.val % 2 = 0) (p : Fin 4096) (e : Fin 256) :
    (outsAt0 m c t.val t.isLt).2.1 (ix2 p e)
      = rowAt (rowsOf (m ((c : Thread nD τ).loc main_arg1)) (bOf t) (hOf t)) (stB m c (bOf t) (hOf t) (0 + (63 - p.val / 64))) (64 * 64 + p.val) e := by
  rw [outsAt0_A m c t h0]
  dsimp only
  unfold out0_A_11
  rw [run_A_o1]
  exact bwd_rows _ _ _ _ _ _ _ _ _ _ _ _ 64 0 rfl (rowsB m c t 64 (by omega)) (startB m c t _) _ _ p e

/-- What the point before a sequence's second one left. -/
theorem before (t : Fin cfg0.N) (h0 : ¬t.val % 2 = 0) (hlt : t.val - 1 < cfg0.N) :
    toSt (outsAt0 m c (t.val - 1) hlt).2.2.1 = stF m c (bOf t) (hOf t) 64
    ∧ toSt (outsAt0 m c (t.val - 1) hlt).2.2.2 = stB m c (bOf t) (hOf t) 64 := by
  have eb : bOf ⟨t.val - 1, hlt⟩ = bOf t := Fin.ext (by show (t.val - 1) / 8 = t.val / 8; omega)
  have eh : hOf ⟨t.val - 1, hlt⟩ = hOf t := Fin.ext (by show (t.val - 1) / 2 % 4 = t.val / 2 % 4; omega)
  have hz : (⟨t.val - 1, hlt⟩ : Fin cfg0.N).val % 2 = 0 := by show (t.val - 1) % 2 = 0; omega
  have f := scratchF_A m c ⟨t.val - 1, hlt⟩ hz
  have g := scratchB_A m c ⟨t.val - 1, hlt⟩ hz
  rw [eb, eh] at f g
  exact ⟨f, g⟩

/-- The rows of a sequence's second point. -/
theorem outF_B (t : Fin cfg0.N) (h0 : ¬t.val % 2 = 0) (p : Fin 4096) (e : Fin 256) :
    (outsAt0 m c t.val t.isLt).1 (ix2 p e)
      = rowAt (rowsOf (m ((c : Thread nD τ).loc main_arg0)) (bOf t) (hOf t)) (stF m c (bOf t) (hOf t) (64 + p.val / 64)) (64 * 64 + p.val) e := by
  rw [outsAt0_B m c t h0]
  dsimp only
  unfold out0_B_10
  rw [run_B_o0]
  refine fwd_rows _ _ _ _ _ _ _ _ _ _ _ _ 64 (rowsF m c t 64 (by omega)) ?_ _ _ p e
  rw [kept_eq]
  exact (before m c t h0 _).1

theorem outB_B (t : Fin cfg0.N) (h0 : ¬t.val % 2 = 0) (p : Fin 4096) (e : Fin 256) :
    (outsAt0 m c t.val t.isLt).2.1 (ix2 p e)
      = rowAt (rowsOf (m ((c : Thread nD τ).loc main_arg1)) (bOf t) (hOf t)) (stB m c (bOf t) (hOf t) (64 + (63 - p.val / 64))) (64 * 0 + p.val) e := by
  rw [outsAt0_B m c t h0]
  dsimp only
  unfold out0_B_11
  rw [run_B_o1]
  refine bwd_rows _ _ _ _ _ _ _ _ _ _ _ _ 0 64 rfl (rowsB m c t 0 (by omega)) ?_ _ _ p e
  rw [kept_eq]
  exact (before m c t h0 _).2

/-- The rows of a point, first direction. -/
theorem outF (t : Fin cfg0.N) (p : Fin 4096) (e : Fin 256) :
    (outsAt0 m c t.val t.isLt).1 (ix2 p e)
      = rowAt (rowsOf (m ((c : Thread nD τ).loc main_arg0)) (bOf t) (hOf t)) (stF m c (bOf t) (hOf t) ((4096 * (t.val % 2) + p.val) / 64)) (4096 * (t.val % 2) + p.val) e := by
  by_cases h0 : t.val % 2 = 0
  · rw [outF_A m c t h0, show (4096 * (t.val % 2) + p.val) / 64 = 0 + p.val / 64 by omega, show 4096 * (t.val % 2) + p.val = 64 * 0 + p.val by omega]
  · rw [outF_B m c t h0, show (4096 * (t.val % 2) + p.val) / 64 = 64 + p.val / 64 by omega, show 4096 * (t.val % 2) + p.val = 64 * 64 + p.val by omega]

/-- The rows of a point, second direction. -/
theorem outB (t : Fin cfg0.N) (p : Fin 4096) (e : Fin 256) :
    (outsAt0 m c t.val t.isLt).2.1 (ix2 p e)
      = rowAt (rowsOf (m ((c : Thread nD τ).loc main_arg1)) (bOf t) (hOf t)) (stB m c (bOf t) (hOf t) (127 - (4096 * (1 - t.val % 2) + p.val) / 64)) (4096 * (1 - t.val % 2) + p.val) e := by
  by_cases h0 : t.val % 2 = 0
  · rw [outB_A m c t h0, h0, show 127 - (4096 * (1 - 0) + p.val) / 64 = 0 + (63 - p.val / 64) by omega]
  · rw [outB_B m c t h0, show t.val % 2 = 1 by omega, show 127 - (4096 * (1 - 1) + p.val) / 64 = 64 + (63 - p.val / 64) by omega]

/-! ## The results -/

theorem finalF (c : Dev nD) : (dats m 0 c).arrAt 10 cfg0.N
    = resultF (m ((c : Thread nD τ).loc main_arg0)) (m ((c : Thread nD τ).loc main_arg2)) (m ((c : Thread nD τ).loc main_arg4)) (m ((c : Thread nD τ).loc main_arg5)) (m ((c : Thread nD τ).loc main_arg7)) (m ((c : Thread nD τ).loc main_arg8)) := by
  refine (dats m 0 c).arrAt_eq_of_covers 10 _ (by decide +kernel) fun t _ y => ?_
  have ht : t.val < 16 := t.isLt
  have e := (index_fwd t).2.2.2.2
  blk_simp
  rw [after0_10]
  obtain ⟨p, j, rfl⟩ : ∃ (p : Fin 4096) (j : Fin 256), y = ix2 p j := ⟨y 0, y 1, eq_ix2 y⟩
  have h0 : (t.val / 8 * 2 + t.val % 2) * 4096 + p.val = 8192 * (t.val / 8) + (4096 * (t.val % 2) + p.val) := place_row _ _ _
  have he : (win0_10.blk t).view.emb (ix2 p j) = ix2 (⟨8192 * (t.val / 8) + (4096 * (t.val % 2) + p.val), by omega⟩ : Fin 16384)
      (⟨t.val / 2 % 4 * 256 + j.val, by omega⟩ : Fin 1024) := by
    funext a; apply Fin.ext
    match a with
    | ⟨0, _⟩ => blk_simp [e]; exact h0
    | ⟨1, _⟩ => blk_simp [e]; try rfl
  rw [he]
  refine (outF m c t p j).trans ?_
  exact place_result (fun b h s i => forth (m ((c : Thread nD τ).loc main_arg0)) (m ((c : Thread nD τ).loc main_arg2)) (m ((c : Thread nD τ).loc main_arg4)) (m ((c : Thread nD τ).loc main_arg5)) (start (m ((c : Thread nD τ).loc main_arg7)) (m ((c : Thread nD τ).loc main_arg8)) h) b h s i) (bOf t) (hOf t)
    (4096 * (t.val % 2) + p.val) (by omega) j _ _ rfl rfl

theorem finalB (c : Dev nD) : (dats m 0 c).arrAt 11 cfg0.N
    = resultB (m ((c : Thread nD τ).loc main_arg1)) (m ((c : Thread nD τ).loc main_arg3)) (m ((c : Thread nD τ).loc main_arg4)) (m ((c : Thread nD τ).loc main_arg6)) := by
  refine (dats m 0 c).arrAt_eq_of_covers 11 _ (by decide +kernel) fun t _ y => ?_
  have ht : t.val < 16 := t.isLt
  have e := (index_bwd t).2.2.2.2
  blk_simp
  rw [after0_11]
  obtain ⟨p, j, rfl⟩ : ∃ (p : Fin 4096) (j : Fin 256), y = ix2 p j := ⟨y 0, y 1, eq_ix2 y⟩
  have h0 : (t.val / 8 * 2 + (1 - t.val % 2)) * 4096 + p.val = 8192 * (t.val / 8) + (4096 * (1 - t.val % 2) + p.val) := place_row _ _ _
  have he : (win0_11.blk t).view.emb (ix2 p j) = ix2 (⟨8192 * (t.val / 8) + (4096 * (1 - t.val % 2) + p.val), by omega⟩ : Fin 16384)
      (⟨t.val / 2 % 4 * 256 + j.val, by omega⟩ : Fin 1024) := by
    funext a; apply Fin.ext
    match a with
    | ⟨0, _⟩ => blk_simp [e]; exact h0
    | ⟨1, _⟩ => blk_simp [e]; try rfl
  rw [he]
  refine (outB m c t p j).trans ?_
  exact place_result (fun b h s i => back (m ((c : Thread nD τ).loc main_arg1)) (m ((c : Thread nD τ).loc main_arg3)) (m ((c : Thread nD τ).loc main_arg4)) (m ((c : Thread nD τ).loc main_arg6)) b h s i) (bOf t) (hOf t)
    (4096 * (1 - t.val % 2) + p.val) (by omega) j _ _ rfl rfl

end Cert.Scan

end
-- ==== Proof.ScanHost.lean ====
/-
  The array operations of the scan's reference, read at an index: cutting rows into chunks, reversing rows, the batched
  products, taking a chunk's slice and filling in a chunk's state, and laying the rows of a result out.
-/
module

public import proofs.«01_k».proof.Proof.Gen.ReferenceIdeal
public import proofs.«01_k».proof.Proof.ScanMath
public import Idealize.ShloMosaic.Lib.MatmulPlain
public import Idealize.ShloMosaic.Lib.WordCmp
public import Idealize.ShloMosaic.Lib.DynamicIndex
public import Idealize.ShloMosaic.Lib.Pipeline.ValueKit

@[expose] public section

noncomputable section

namespace Cert.Scan

open Cert.ReferenceIdeal Cert.ReferenceIdeal.Gen Idealize.ShloMosaic.ValueIdx Idealize.SL.Sem
open Idealize.ShloMosaic hiding ix2 ix3 ix4 ix5 eq_ix2 addf_apply mulf_apply

/-! ## Indices -/

/-- An index of an array of rank three is the triple of its coordinates. -/
theorem at3 {A B C : ℕ} (i : (⟨3, ![A, B, C]⟩ : Shape).Idx) (a : Fin A) (b : Fin B) (c : Fin C)
    (h0 : (i 0).val = a.val) (h1 : (i 1).val = b.val) (h2 : (i 2).val = c.val) : i = ix3 a b c := by
  funext k; apply Fin.ext
  match k with
  | ⟨0, _⟩ => exact h0
  | ⟨1, _⟩ => exact h1
  | ⟨2, _⟩ => exact h2

/-- An index of an array of rank four is the quadruple of its coordinates. -/
theorem at4 {A B C D : ℕ} (i : (⟨4, ![A, B, C, D]⟩ : Shape).Idx) (a : Fin A) (b : Fin B) (c : Fin C) (d : Fin D)
    (h0 : (i 0).val = a.val) (h1 : (i 1).val = b.val) (h2 : (i 2).val = c.val) (h3 : (i 3).val = d.val) : i = ix4 a b c d := by
  funext k; apply Fin.ext
  match k with
  | ⟨0, _⟩ => exact h0
  | ⟨1, _⟩ => exact h1
  | ⟨2, _⟩ => exact h2
  | ⟨3, _⟩ => exact h3

/-- An index of an array of rank five is its coordinates. -/
theorem at5 {A B C D E : ℕ} (i : (⟨5, ![A, B, C, D, E]⟩ : Shape).Idx) (a : Fin A) (b : Fin B) (c : Fin C) (d : Fin D) (e : Fin E)
    (h0 : (i 0).val = a.val) (h1 : (i 1).val = b.val) (h2 : (i 2).val = c.val) (h3 : (i 3).val = d.val) (h4 : (i 4).val = e.val) :
    i = ix5 a b c d e := by
  funext k; apply Fin.ext
  match k with
  | ⟨0, _⟩ => exact h0
  | ⟨1, _⟩ => exact h1
  | ⟨2, _⟩ => exact h2
  | ⟨3, _⟩ => exact h3
  | ⟨4, _⟩ => exact h4

/-! ## Rows and chunks -/

/-- Rows cut into chunks of 64. -/
theorem cut_rows {d : ℕ} (X : (⟨4, ![2, 4, 8192, d]⟩ : Shape).Idx → EReal)
    (hc : (⟨4, ![2, 4, 8192, d]⟩ : Shape).ShapeCasts ⟨5, ![2, 4, 128, 64, d]⟩) (b : Fin 2) (h : Fin 4) (n : Fin 128) (r : Fin 64) (a : Fin d) :
    shapeCast ⟨5, ![2, 4, 128, 64, d]⟩ X hc (ix5 b h n r a) = rowsOf X b h (64 * n.val + r.val) a := by
  refine shapeCast_apply X hc _ (ix4 b h (Fin.ofNat 8192 (64 * n.val + r.val)) a) ?_
  rw [Shape.rowMajor_val_four, Shape.rowMajor_val_five]
  show ((b.val * 4 + h.val) * 8192 + (64 * n.val + r.val) % 8192) * d + a.val = (((b.val * 4 + h.val) * 128 + n.val) * 64 + r.val) * d + a.val
  rw [show (b.val * 4 + h.val) * 8192 + (64 * n.val + r.val) % 8192 = ((b.val * 4 + h.val) * 128 + n.val) * 64 + r.val by omega]

/-- Chunks of 64 joined to rows. -/
theorem join_rows (X : S2x4x128x64x256.Idx → EReal) (hc : S2x4x128x64x256.ShapeCasts S2x4x8192x256) (b : Fin 2) (h : Fin 4) (s : Fin 8192)
    (e : Fin 256) : shapeCast S2x4x8192x256 X hc (ix4 b h s e) = X (ix5 b h (⟨s.val / 64, by omega⟩ : Fin 128) (⟨s.val % 64, by omega⟩ : Fin 64) e) := by
  refine shapeCast_apply X hc _ _ ?_
  rw [Shape.rowMajor_val_four, Shape.rowMajor_val_five]
  show (((b.val * 4 + h.val) * 128 + s.val / 64) * 64 + s.val % 64) * 256 + e.val = ((b.val * 4 + h.val) * 8192 + s.val) * 256 + e.val
  omega

/-- The rows of an array reversed. -/
theorem rows_reverse {n d : ℕ} [NeZero n] (X : (⟨4, ![2, 4, n, d]⟩ : Shape).Idx → EReal) (b : Fin 2) (h : Fin 4) (s : ℕ) (hs : s < n) (a : Fin d) :
    rowsOf (Host.reverse [2] X) b h s a = rowsOf X b h (n - 1 - s) a := by
  refine congrArg X (at4 _ b h (Fin.ofNat n (n - 1 - s)) a rfl rfl ?_ rfl)
  show n - (s % n + 1) = (n - 1 - s) % n
  rw [Nat.mod_eq_of_lt hs, Nat.mod_eq_of_lt (by omega)]
  omega

/-- What a chunk of reversed rows adds is what its mirror chunk adds. -/
theorem incr_reverse (K : (⟨4, ![2, 4, 8192, 128]⟩ : Shape).Idx → EReal) (W : (⟨4, ![2, 4, 8192, 256]⟩ : Shape).Idx → EReal)
    (b : Fin 2) (h : Fin 4) (n : ℕ) (hn : n < 128) :
    incr (rowsOf (Host.reverse [2] K) b h) (rowsOf (Host.reverse [2] W) b h) n = incr (rowsOf K b h) (rowsOf W b h) (127 - n) := by
  funext a e
  refine (Equiv.sum_comp Fin.revPerm _).symm.trans (Finset.sum_congr rfl fun r _ => ?_)
  have hr : (Fin.revPerm r : Fin 64).val = 64 - (r.val + 1) := rfl
  have hlt := r.isLt
  rw [rows_reverse K b h _ (by omega) a, rows_reverse W b h _ (by omega) e, hr,
    show 8192 - 1 - (64 * n + (64 - (r.val + 1))) = 64 * (127 - n) + r.val by omega]

/-! ## The batched products -/

theorem dot_incr_apply (A : FVec Ideal S2x4x128x64x128 .f32) (B : FVec Ideal S2x4x128x64x256 .f32) (b : Fin 2) (h : Fin 4) (n : Fin 128)
    (a : Fin 128) (e : Fin 256) :
    Host.dotGeneral (φ₁ := .f32) (φ₂ := .f32) dot_S2x4x128x64x128_S2x4x128x64x256_S2x4x128x128x256_3_3_4_4_012_012 none A B (ix5 b h n a e)
      = ∑ r : Fin 64, (A (ix5 b h n r a) : EReal) * B (ix5 b h n r e) := by
  let D := dot_S2x4x128x64x128_S2x4x128x64x256_S2x4x128x128x256_3_3_4_4_012_012
  simp only [Host.dotGeneral]
  refine (Ideal.dotGeneral_apply D _ _ A B _).trans ?_
  let E := contrEquiv1 D 64 rfl rfl
  rw [← Equiv.sum_comp E.symm]
  refine Finset.sum_congr rfl fun k _ => ?_
  have hk := contrEquiv1_symm_val D 64 rfl rfl k
  rw [show D.lhsIdx (ix5 b h n a e) (E.symm k) = ix5 b h n k a from at5 _ b h n k a rfl rfl rfl hk rfl,
    show D.rhsIdx (ix5 b h n a e) (E.symm k) = ix5 b h n k e from at5 _ b h n k e rfl rfl rfl hk rfl]

theorem dot_rows_apply (A : FVec Ideal S2x4x128x64x128 .f32) (B : FVec Ideal S2x4x128x128x256 .f32) (b : Fin 2) (h : Fin 4) (n : Fin 128)
    (r : Fin 64) (e : Fin 256) :
    Host.dotGeneral (φ₁ := .f32) (φ₂ := .f32) dot_S2x4x128x64x128_S2x4x128x128x256_S2x4x128x64x256_4_3_3_4_012_012 none A B (ix5 b h n r e)
      = ∑ a : Fin 128, (A (ix5 b h n r a) : EReal) * B (ix5 b h n a e) := by
  let D := dot_S2x4x128x64x128_S2x4x128x128x256_S2x4x128x64x256_4_3_3_4_012_012
  simp only [Host.dotGeneral]
  refine (Ideal.dotGeneral_apply D _ _ A B _).trans ?_
  let E := contrEquiv1 D 128 rfl rfl
  rw [← Equiv.sum_comp E.symm]
  refine Finset.sum_congr rfl fun k _ => ?_
  have hk := contrEquiv1_symm_val D 128 rfl rfl k
  rw [show D.lhsIdx (ix5 b h n r e) (E.symm k) = ix5 b h n r k from at5 _ b h n r k rfl rfl rfl rfl hk,
    show D.rhsIdx (ix5 b h n r e) (E.symm k) = ix5 b h n k e from at5 _ b h n k e rfl rfl rfl hk rfl]

theorem dot_start_apply (A : FVec Ideal S4x64x128 .f32) (B : FVec Ideal S4x64x256 .f32) (h : Fin 4) (a : Fin 128) (e : Fin 256) :
    Host.dotGeneral (φ₁ := .f32) (φ₂ := .f32) dot_S4x64x128_S4x64x256_S4x128x256_1_1_2_2_0_0 none A B (ix3 h a e)
      = ∑ r : Fin 64, (A (ix3 h r a) : EReal) * B (ix3 h r e) := by
  let D := dot_S4x64x128_S4x64x256_S4x128x256_1_1_2_2_0_0
  simp only [Host.dotGeneral]
  refine (Ideal.dotGeneral_apply D _ _ A B _).trans ?_
  let E := contrEquiv1 D 64 rfl rfl
  rw [← Equiv.sum_comp E.symm]
  refine Finset.sum_congr rfl fun k _ => ?_
  have hk := contrEquiv1_symm_val D 64 rfl rfl k
  rw [show D.lhsIdx (ix3 h a e) (E.symm k) = ix3 h k a from at3 _ h k a rfl hk rfl,
    show D.rhsIdx (ix3 h a e) (E.symm k) = ix3 h k e from at3 _ h k e rfl hk rfl]

/-! ## Powers of two -/

/-- The host's power with base two is the exponential with base two. -/
theorem pow_two (y : EReal) : Ideal.pow (Ideal.ofBits .f32 0x40000000#32) y = Ideal.exp2 y := by
  have e : Ideal.ofBits .f32 0x40000000#32 = ((2 : ℝ) : EReal) := by
    simp [Ideal.ofBits, Ideal.ieee, -EReal.coe_mul]
    norm_num
  rw [e]
  induction y using EReal.rec with
  | bot =>
    show (if (2 : ℝ) < 0 then (⊥ : EReal) else if 1 < (2 : ℝ) then 0 else if (2 : ℝ) = 1 then 1 else ⊤) = 0
    norm_num
  | coe r => rfl
  | top =>
    show (if (2 : ℝ) < 0 then (⊥ : EReal) else if 1 < (2 : ℝ) then ⊤ else if (2 : ℝ) = 1 then 1 else 0) = ⊤
    norm_num

/-! ## One chunk's slice, and filling in one chunk's state -/

/-- A counter that holds `j`. -/
abbrev Holds (w : IVec S_ 32) (j : ℕ) : Prop := w = fun _ => BitVec.ofNat 32 j

theorem start5 (w : IVec S_ 32) (j : ℕ) (hj : j < 128) (hw : Holds w j) (k : Fin 5) :
    (((![w, constantI S_ 32 0#32, constantI S_ 32 0#32, constantI S_ 32 0#32, constantI S_ 32 0#32] : Fin 5 → IVec S_ 32) k) (Shape.Idx.first h_S_)).toInt
      = (((![j, 0, 0, 0, 0] : Fin 5 → ℕ) k : ℕ) : Int) := by
  subst hw
  match k with
  | ⟨0, _⟩ => exact toInt_ofNat_of_lt (by omega)
  | ⟨1, _⟩ => rfl
  | ⟨2, _⟩ => rfl
  | ⟨3, _⟩ => rfl
  | ⟨4, _⟩ => rfl

theorem start4 (w : IVec S_ 32) (j : ℕ) (hj : j < 128) (hw : Holds w j) (k : Fin 4) :
    (((![w, constantI S_ 32 0#32, constantI S_ 32 0#32, constantI S_ 32 0#32] : Fin 4 → IVec S_ 32) k) (Shape.Idx.first h_S_)).toInt
      = (((![j, 0, 0, 0] : Fin 4 → ℕ) k : ℕ) : Int) := by
  subst hw
  match k with
  | ⟨0, _⟩ => exact toInt_ofNat_of_lt (by omega)
  | ⟨1, _⟩ => rfl
  | ⟨2, _⟩ => rfl
  | ⟨3, _⟩ => rfl

/-- Chunk `j`'s slice fits. -/
theorem fits5 (j : ℕ) (hj : j < 128) : S128x2x4x128x256.Slices (![j, 0, 0, 0, 0] : Fin 5 → ℕ) S1x2x4x128x256 := by
  refine ⟨rfl, fun a => ?_⟩
  match a with
  | ⟨0, _⟩ => show j + 1 ≤ 128; omega
  | ⟨1, _⟩ => show 0 + 2 ≤ 2; omega
  | ⟨2, _⟩ => show 0 + 4 ≤ 4; omega
  | ⟨3, _⟩ => show 0 + 128 ≤ 128; omega
  | ⟨4, _⟩ => show 0 + 256 ≤ 256; omega

theorem fits4 (j : ℕ) (hj : j < 128) : S128x2x4x128.Slices (![j, 0, 0, 0] : Fin 4 → ℕ) S1x2x4x128 := by
  refine ⟨rfl, fun a => ?_⟩
  match a with
  | ⟨0, _⟩ => show j + 1 ≤ 128; omega
  | ⟨1, _⟩ => show 0 + 2 ≤ 2; omega
  | ⟨2, _⟩ => show 0 + 4 ≤ 4; omega
  | ⟨3, _⟩ => show 0 + 128 ≤ 128; omega

/-- What chunk `j` adds, taken out of what the chunks add. -/
theorem take5 (x : S128x2x4x128x256.Idx → EReal) (st : Fin 5 → Int) (j : ℕ) (hj : j < 128) (hs : ∀ k, st k = (((![j, 0, 0, 0, 0] : Fin 5 → ℕ) k : ℕ) : Int))
    (b : Fin 2) (h : Fin 4) (a : Fin 128) (e : Fin 256) :
    shapeCast S2x4x128x256 (Host.dynamicSlice S1x2x4x128x256 x st sliceFits_S128x2x4x128x256_S1x2x4x128x256) shapeCasts_S1x2x4x128x256_S2x4x128x256 (ix4 b h a e)
      = x (ix5 (⟨j, hj⟩ : Fin 128) b h a e) := by
  refine (shapeCast_apply _ _ _ (ix5 (0 : Fin 1) b h a e) ?_).trans ?_
  · rw [Shape.rowMajor_val_four, Shape.rowMajor_val_five]
    show (((0 * 2 + b.val) * 4 + h.val) * 128 + a.val) * 256 + e.val = ((b.val * 4 + h.val) * 128 + a.val) * 256 + e.val
    omega
  rw [WordCmp.dynamicSlice_eq_extract S1x2x4x128x256 x st _ _ (fits5 j hj) hs]
  exact congrArg x (at5 _ _ b h a e (by show j + 0 = j; omega) (by show 0 + b.val = b.val; omega) (by show 0 + h.val = h.val; omega)
    (by show 0 + a.val = a.val; omega) (by show 0 + e.val = e.val; omega))

/-- Chunk `j`'s decay, taken out of the chunks' decays and repeated over the value features. -/
theorem take4 (x : S128x2x4x128.Idx → EReal) (st : Fin 4 → Int) (j : ℕ) (hj : j < 128) (hs : ∀ k, st k = (((![j, 0, 0, 0] : Fin 4 → ℕ) k : ℕ) : Int))
    (b : Fin 2) (h : Fin 4) (a : Fin 128) (e : Fin 256) :
    broadcastInDim S2x4x128x256 ![0, 1, 2, 3] bcast_S2x4x128x1_S2x4x128x256_0_1_2_3 (broadcastInDim S2x4x128x1 ![0, 1, 2] bcast_S2x4x128_S2x4x128x1_0_1_2
      (shapeCast S2x4x128 (Host.dynamicSlice S1x2x4x128 x st sliceFits_S128x2x4x128_S1x2x4x128) shapeCasts_S1x2x4x128_S2x4x128)) (ix4 b h a e)
      = x (ix4 (⟨j, hj⟩ : Fin 128) b h a) := by
  have e1 : ∀ Y : S2x4x128.Idx → EReal, broadcastInDim S2x4x128x256 ![0, 1, 2, 3] bcast_S2x4x128x1_S2x4x128x256_0_1_2_3
      (broadcastInDim S2x4x128x1 ![0, 1, 2] bcast_S2x4x128_S2x4x128x1_0_1_2 Y) (ix4 b h a e) = Y (ix3 b h a) := fun Y =>
    congrArg Y (at3 _ b h a rfl rfl rfl)
  refine (e1 _).trans ((shapeCast_apply _ _ _ (ix4 (0 : Fin 1) b h a) ?_).trans ?_)
  · rw [Shape.rowMajor_val_four, Shape.rowMajor_val_three]
    show ((0 * 2 + b.val) * 4 + h.val) * 128 + a.val = (b.val * 4 + h.val) * 128 + a.val
    omega
  rw [WordCmp.dynamicSlice_eq_extract S1x2x4x128 x st _ _ (fits4 j hj) hs]
  exact congrArg x (at4 _ _ b h a (by show j + 0 = j; omega) (by show 0 + b.val = b.val; omega) (by show 0 + h.val = h.val; omega)
    (by show 0 + a.val = a.val; omega))

/-- The states with chunk `j`'s filled in. -/
theorem put5 (x : S128x2x4x128x256.Idx → EReal) (y : S2x4x128x256.Idx → EReal) (st : Fin 5 → Int) (j : ℕ) (hj : j < 128)
    (hs : ∀ k, st k = (((![j, 0, 0, 0, 0] : Fin 5 → ℕ) k : ℕ) : Int)) (n : Fin 128) (b : Fin 2) (h : Fin 4) (a : Fin 128) (e : Fin 256) :
    Host.dynamicUpdateSlice x (broadcastInDim S1x2x4x128x256 ![1, 2, 3, 4] bcast_S2x4x128x256_S1x2x4x128x256_1_2_3_4 y) st
      updateFits_S128x2x4x128x256_S1x2x4x128x256 (ix5 n b h a e) = if n.val = j then y (ix4 b h a e) else x (ix5 n b h a e) := by
  rw [WordCmp.dynamicUpdateSlice_eq_update x _ st _ _ (fits5 j hj) hs]
  unfold updateSlice
  by_cases hn : n.val = j
  · rw [if_pos hn]
    refine (dif_pos ?_).trans (congrArg y (at4 _ b h a e rfl rfl rfl rfl))
    intro k
    match k with
    | ⟨0, _⟩ => show j ≤ n.val ∧ n.val < j + 1; omega
    | ⟨1, _⟩ => show 0 ≤ b.val ∧ b.val < 0 + 2; omega
    | ⟨2, _⟩ => show 0 ≤ h.val ∧ h.val < 0 + 4; omega
    | ⟨3, _⟩ => show 0 ≤ a.val ∧ a.val < 0 + 128; omega
    | ⟨4, _⟩ => show 0 ≤ e.val ∧ e.val < 0 + 256; omega
  · rw [if_neg hn]
    refine dif_neg fun hk => hn ?_
    have h0 := hk (0 : Fin 5)
    have h1 : j ≤ n.val ∧ n.val < j + 1 := h0
    omega

/-! ## A result's layout -/

/-- Heads laid side by side, sequences one after the other. -/
def laid (D : FVec Ideal S2x4x8192x256 .f32) : FVec Ideal S16384x1024 .bf16 :=
  truncf .bf16 (shapeCast S16384x1024 (transpose S2x8192x4x256 [0, 2, 1, 3] D transposes_S2x4x8192x256_S2x8192x4x256_0_2_1_3)
    shapeCasts_S2x8192x4x256_S16384x1024) bitsLt_bf16_f32

theorem laid_apply (D : FVec Ideal S2x4x8192x256 .f32) (i : S16384x1024.Idx) :
    laid D i = (D (ix4 (batchOf (i 0)) (headOf (i 1)) (⟨(i 0).val % 8192, Nat.mod_lt _ (by decide)⟩ : Fin 8192) (featOf (i 1))) : EReal) := by
  show shapeCast S16384x1024 (transpose S2x8192x4x256 [0, 2, 1, 3] D transposes_S2x4x8192x256_S2x8192x4x256_0_2_1_3)
    shapeCasts_S2x8192x4x256_S16384x1024 i = _
  have h0 : (i 0).val < 16384 := (i 0).isLt
  have h1 : (i 1).val < 1024 := (i 1).isLt
  refine (shapeCast_apply _ _ _ (ix4 (batchOf (i 0)) (⟨(i 0).val % 8192, Nat.mod_lt _ (by decide)⟩ : Fin 8192) (headOf (i 1)) (featOf (i 1))) ?_).trans ?_
  · rw [Shape.rowMajor_val_four, Shape.rowMajor_val_two]
    show (((i 0).val / 8192 * 8192 + (i 0).val % 8192) * 4 + (i 1).val / 256) * 256 + (i 1).val % 256 = (i 0).val * 1024 + (i 1).val
    omega
  · exact congrArg D (at4 _ _ _ _ _ rfl rfl rfl rfl)

/-- Rows of queries against the states before their chunks. -/
def rowsV (Q : FVec Ideal S2x4x8192x128 .f32) (Z : FVec Ideal S128x2x4x128x256 .f32) : FVec Ideal S2x4x8192x256 .f32 :=
  shapeCast S2x4x8192x256 (Host.dotGeneral dot_S2x4x128x64x128_S2x4x128x128x256_S2x4x128x64x256_4_3_3_4_012_012 none
    (shapeCast S2x4x128x64x128 Q shapeCasts_S2x4x8192x128_S2x4x128x64x128)
    (transpose S2x4x128x128x256 [1, 2, 0, 3, 4] Z transposes_S128x2x4x128x256_S2x4x128x128x256_1_2_0_3_4)) shapeCasts_S2x4x128x64x256_S2x4x8192x256

theorem rowsV_apply (Q : FVec Ideal S2x4x8192x128 .f32) (Z : FVec Ideal S128x2x4x128x256 .f32) (b : Fin 2) (h : Fin 4) (s : Fin 8192) (e : Fin 256) :
    rowsV Q Z (ix4 b h s e) = ∑ a : Fin 128, rowsOf Q b h s.val a * (Z (ix5 (⟨s.val / 64, by omega⟩ : Fin 128) b h a e) : EReal) := by
  refine (join_rows _ _ b h s e).trans ((dot_rows_apply _ _ _ _ _ _ _).trans (Finset.sum_congr rfl fun a _ => ?_))
  refine congrArg₂ (fun x y : EReal => x * y) ((cut_rows Q _ _ _ _ _ _).trans ?_) (congrArg Z (at5 _ _ _ _ _ _ rfl rfl rfl rfl rfl))
  show rowsOf Q b h (64 * (s.val / 64) + s.val % 64) a = _
  rw [show 64 * (s.val / 64) + s.val % 64 = s.val by omega]

end Cert.Scan

end
-- ==== Proof.ScanRef.lean ====
/-
  The scan's reference in closed form. Its loop carries, for each direction, the state and the states before each chunk;
  after `k` trips the state is the chain of `k` steps of `ScanMath.lean`, and the first `k` stored states are the chain's.
-/
module

public import proofs.«01_k».proof.Proof.Gen.ReferenceIdeal.Run
public import proofs.«01_k».proof.Proof.Gen.ReferenceIdeal.Step
public import proofs.«01_k».proof.Proof.ScanHost

@[expose] public section

noncomputable section

namespace Cert.Scan

open Cert.ReferenceIdeal Cert.ReferenceIdeal.Gen Cert.ReferenceIdeal.Value Idealize.ShloMosaic.TcCoe Idealize.SL.Sem Idealize.ShloMosaic.StableHlo Idealize.ShloMosaic.ValueIdx
open Idealize.ShloMosaic hiding ix2 ix3 ix4 ix5 eq_ix2 addf_apply mulf_apply

/-! ## One direction's loop -/

/-- One trip's new state. -/
def tripS (w : IVec S_ 32) (dec : FVec Ideal S128x2x4x128 .f32) (inc : FVec Ideal S128x2x4x128x256 .f32) (S : FVec Ideal S2x4x128x256 .f32) :
    FVec Ideal S2x4x128x256 .f32 :=
  addf (mulf (broadcastInDim S2x4x128x256 ![0, 1, 2, 3] bcast_S2x4x128x1_S2x4x128x256_0_1_2_3 (broadcastInDim S2x4x128x1 ![0, 1, 2] bcast_S2x4x128_S2x4x128x1_0_1_2
    (shapeCast S2x4x128 (Host.dynamicSlice S1x2x4x128 dec (fun k => ((![w, constantI S_ 32 0#32, constantI S_ 32 0#32, constantI S_ 32 0#32] : Fin 4 → IVec S_ 32) k (Shape.Idx.first h_S_)).toInt)
      sliceFits_S128x2x4x128_S1x2x4x128) shapeCasts_S1x2x4x128_S2x4x128))) S)
    (shapeCast S2x4x128x256 (Host.dynamicSlice S1x2x4x128x256 inc (fun k => ((![w, constantI S_ 32 0#32, constantI S_ 32 0#32, constantI S_ 32 0#32, constantI S_ 32 0#32] : Fin 5 → IVec S_ 32) k (Shape.Idx.first h_S_)).toInt)
      sliceFits_S128x2x4x128x256_S1x2x4x128x256) shapeCasts_S1x2x4x128x256_S2x4x128x256)

/-- One trip's stored states. -/
def tripZ (w : IVec S_ 32) (Z : FVec Ideal S128x2x4x128x256 .f32) (S : FVec Ideal S2x4x128x256 .f32) : FVec Ideal S128x2x4x128x256 .f32 :=
  Host.dynamicUpdateSlice Z (broadcastInDim S1x2x4x128x256 ![1, 2, 3, 4] bcast_S2x4x128x256_S1x2x4x128x256_1_2_3_4 S)
    (fun k => ((![w, constantI S_ 32 0#32, constantI S_ 32 0#32, constantI S_ 32 0#32, constantI S_ 32 0#32] : Fin 5 → IVec S_ 32) k (Shape.Idx.first h_S_)).toInt)
    updateFits_S128x2x4x128x256_S1x2x4x128x256

theorem tripS_apply (w : IVec S_ 32) (dec : FVec Ideal S128x2x4x128 .f32) (inc : FVec Ideal S128x2x4x128x256 .f32) (S : FVec Ideal S2x4x128x256 .f32)
    (j : ℕ) (hj : j < 128) (hw : Holds w j) (b : Fin 2) (h : Fin 4) (a : Fin 128) (e : Fin 256) :
    tripS w dec inc S (ix4 b h a e) = (S (ix4 b h a e) : EReal) * dec (ix4 (⟨j, hj⟩ : Fin 128) b h a) + inc (ix5 (⟨j, hj⟩ : Fin 128) b h a e) := by
  refine (congrArg₂ (fun x y : EReal => x * S (ix4 b h a e) + y) (take4 dec _ j hj (start4 w j hj hw) b h a e) (take5 inc _ j hj (start5 w j hj hw) b h a e)).trans ?_
  show _ * _ + _ = _
  rw [mul_comm]

/-- A loop that decays and adds to a state, and stores the state before each step, in closed form. -/
theorem loop_states (w : ℕ → IVec S_ 32) (dec : FVec Ideal S128x2x4x128 .f32) (inc : FVec Ideal S128x2x4x128x256 .f32)
    (S : ℕ → FVec Ideal S2x4x128x256 .f32) (Z : ℕ → FVec Ideal S128x2x4x128x256 .f32) (hw : ∀ k, Holds (w k) k)
    (hS : ∀ k, S (k + 1) = tripS (w k) dec inc (S k)) (hZ : ∀ k, Z (k + 1) = tripZ (w k) (Z k) (S k))
    (f : ℕ → ℕ) (K : (⟨4, ![2, 4, 8192, 128]⟩ : Shape).Idx → EReal) (W : (⟨4, ![2, 4, 8192, 256]⟩ : Shape).Idx → EReal)
    (B : (⟨4, ![2, 4, 128, 128]⟩ : Shape).Idx → EReal) (S0 : Fin 4 → St)
    (hdec : ∀ n b h a, (dec (ix4 n b h a) : EReal) = decay (rowsOf B b h) (f n.val) a)
    (hinc : ∀ n b h a e, (inc (ix5 n b h a e) : EReal) = incr (rowsOf K b h) (rowsOf W b h) (f n.val) a e)
    (h0 : ∀ b h a e, (S 0 (ix4 b h a e) : EReal) = S0 h a e) (b : Fin 2) (h : Fin 4) (a : Fin 128) (e : Fin 256) :
    ∀ k ≤ 128, (S k (ix4 b h a e) : EReal) = along f (rowsOf K b h) (rowsOf W b h) (rowsOf B b h) (S0 h) k a e
      ∧ ∀ n : Fin 128, n.val < k → (Z k (ix5 n b h a e) : EReal) = along f (rowsOf K b h) (rowsOf W b h) (rowsOf B b h) (S0 h) n.val a e := by
  intro k
  induction k with
  | zero => exact fun _ => ⟨h0 b h a e, fun n hn => absurd hn (Nat.not_lt_zero _)⟩
  | succ k ih =>
    intro hk
    obtain ⟨i1, i2⟩ := ih (by omega)
    constructor
    · rw [hS k, tripS_apply (w k) dec inc (S k) k (by omega) (hw k), hdec, hinc, i1]
      rfl
    · intro n hn
      rw [hZ k]
      refine (put5 (Z k) (S k) _ k (by omega) (start5 (w k) k (by omega) (hw k)) n b h a e).trans ?_
      by_cases hnk : n.val = k
      · rw [if_pos hnk, i1, hnk]
      · rw [if_neg hnk]
        exact i2 n (by omega)

/-! ## What the loop starts from -/

section Arrays

variable (x2 x3 : FVec Ideal S2x4x8192x128 .f32) (x4 : FVec Ideal S2x4x8192x256 .f32) (x5 x6 : FVec Ideal S2x4x128x128 .f32)
  (x7 : FVec Ideal S4x64x128 .f32) (x8 : FVec Ideal S4x64x256 .f32)

/-- What the chunks add, per chunk. -/
theorem products_apply (K : FVec Ideal S2x4x8192x128 .f32) (W : FVec Ideal S2x4x8192x256 .f32) (n : Fin 128) (b : Fin 2) (h : Fin 4) (a : Fin 128) (e : Fin 256) :
    transpose S128x2x4x128x256 [2, 0, 1, 3, 4] (Host.dotGeneral (F := Ideal) (φ₁ := .f32) (φ₂ := .f32) dot_S2x4x128x64x128_S2x4x128x64x256_S2x4x128x128x256_3_3_4_4_012_012 none
      (shapeCast S2x4x128x64x128 K shapeCasts_S2x4x8192x128_S2x4x128x64x128) (shapeCast S2x4x128x64x256 W shapeCasts_S2x4x8192x256_S2x4x128x64x256))
      transposes_S2x4x128x128x256_S128x2x4x128x256_2_0_1_3_4 (ix5 n b h a e) = incr (rowsOf K b h) (rowsOf W b h) n.val a e := by
  have e1 : ∀ Y : S2x4x128x128x256.Idx → EReal, transpose S128x2x4x128x256 [2, 0, 1, 3, 4] Y transposes_S2x4x128x128x256_S128x2x4x128x256_2_0_1_3_4 (ix5 n b h a e)
      = Y (ix5 b h n a e) := fun Y => congrArg Y (at5 _ _ _ _ _ _ rfl rfl rfl rfl rfl)
  refine (e1 _).trans ((dot_incr_apply _ _ _ _ _ _ _).trans (Finset.sum_congr rfl fun r _ => ?_))
  exact congrArg₂ (fun x y : EReal => x * y) (cut_rows K _ _ _ _ _ _) (cut_rows W _ _ _ _ _ _)

/-- The chunks' decays. -/
theorem powers_apply (B : FVec Ideal S2x4x128x128 .f32) (n : Fin 128) (b : Fin 2) (h : Fin 4) (a : Fin 128) :
    transpose S128x2x4x128 [2, 0, 1, 3] (Host.powf (F := Ideal) (φ := .f32) (broadcastInDim S2x4x128x128 ![] bcast_S_S2x4x128x128 (constant S_ .f32 0x40000000#32)) B)
      transposes_S2x4x128x128_S128x2x4x128_2_0_1_3 (ix4 n b h a) = decay (rowsOf B b h) n.val a := by
  have e1 : ∀ Y : S2x4x128x128.Idx → EReal, transpose S128x2x4x128 [2, 0, 1, 3] Y transposes_S2x4x128x128_S128x2x4x128_2_0_1_3 (ix4 n b h a)
      = Y (ix4 b h n a) := fun Y => congrArg Y (at4 _ _ _ _ _ rfl rfl rfl rfl)
  refine (e1 _).trans ((pow_two (B (ix4 b h n a))).trans ?_)
  exact congrArg (fun y => Ideal.exp2 (B (ix4 b h y a))) (Fin.ext (Nat.mod_eq_of_lt n.isLt).symm)

theorem inc_fwd (n : Fin 128) (b : Fin 2) (h : Fin 4) (a : Fin 128) (e : Fin 256) :
    Step.A_main_v7 (F := Ideal) x2 x3 x4 x5 x6 x7 x8 (ix5 n b h a e) = incr (rowsOf x2 b h) (rowsOf x4 b h) n.val a e :=
  products_apply x2 x4 n b h a e

theorem inc_bwd (n : Fin 128) (b : Fin 2) (h : Fin 4) (a : Fin 128) (e : Fin 256) :
    Step.A_main_v16 (F := Ideal) x2 x3 x4 x5 x6 x7 x8 (ix5 n b h a e) = incr (rowsOf x3 b h) (rowsOf x4 b h) (127 - n.val) a e :=
  (products_apply (Host.reverse [2] x3) (Host.reverse [2] x4) n b h a e).trans (congrFun (congrFun (incr_reverse x3 x4 b h n.val n.isLt) a) e)

theorem dec_fwd (n : Fin 128) (b : Fin 2) (h : Fin 4) (a : Fin 128) :
    Step.A_main_v10 (F := Ideal) x2 x3 x4 x5 x6 x7 x8 (ix4 n b h a) = decay (rowsOf x5 b h) n.val a :=
  powers_apply x5 n b h a

theorem dec_bwd (n : Fin 128) (b : Fin 2) (h : Fin 4) (a : Fin 128) :
    Step.A_main_v20 (F := Ideal) x2 x3 x4 x5 x6 x7 x8 (ix4 n b h a) = decay (rowsOf x6 b h) (127 - n.val) a :=
  (powers_apply (Host.reverse [2] x6) n b h a).trans (congrArg Ideal.exp2 (rows_reverse x6 b h n.val n.isLt a))

theorem first_fwd (b : Fin 2) (h : Fin 4) (a : Fin 128) (e : Fin 256) :
    Step.A_main_v2 (F := Ideal) x2 x3 x4 x5 x6 x7 x8 (ix4 b h a e) = start x7 x8 h a e := by
  have e1 : ∀ Y : S4x128x256.Idx → EReal, broadcastInDim S2x4x128x256 ![0, 1, 2, 3] bcast_S1x4x128x256_S2x4x128x256_0_1_2_3
      (broadcastInDim S1x4x128x256 ![1, 2, 3] bcast_S4x128x256_S1x4x128x256_1_2_3 Y) (ix4 b h a e) = Y (ix3 h a e) := fun Y =>
    congrArg Y (at3 _ _ _ _ rfl rfl rfl)
  exact (e1 _).trans (dot_start_apply x7 x8 h a e)

theorem first_bwd (b : Fin 2) (h : Fin 4) (a : Fin 128) (e : Fin 256) : (Step.K_main_v3 (F := Ideal) (ix4 b h a e) : EReal) = 0 :=
  IdealRules.sign_bit.ideal_zero .f32

end Arrays

/-! ## The loop -/

section Loop

variable (m : (ℓ : Loc nD τ sig) → Buf (Elt Ideal) ℓ) (c : Dev nD)

/-- What the buffers hold after `k` trips. -/
abbrev after (k : ℕ) : Valuation τ sig (Elt Ideal) := STEP^[k] (entryContents preI m c)

theorem after_succ (k : ℕ) : after m c (k + 1) = STEP (after m c k) := Function.iterate_succ_apply' _ _ _

set_option maxRecDepth 100000 in
set_option maxHeartbeats 2000000 in
/-- What the loop starts from, of the arguments. -/
theorem entry_at :
    entryContents preI m c (Proc.devRef .tc main_v23_0) = Step.A_main_v7 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ entryContents preI m c (Proc.devRef .tc main_v23_1) = Step.A_main_v10 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ entryContents preI m c (Proc.devRef .tc main_v23_2) = Step.A_main_v16 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ entryContents preI m c (Proc.devRef .tc main_v23_3) = Step.A_main_v20 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ entryContents preI m c (Proc.devRef .tc main_v23_5) = Step.A_main_v2 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ entryContents preI m c (Proc.devRef .tc main_v23_6) = Step.K_main_v3 := by
  refine ⟨?_, ?_, ?_, ?_, ?_, ?_⟩
  all_goals
    simp only [entryContents, afterL_cons, afterL_nil]
    after_reads_simp
    rfl

/-- The counter counts the trips. -/
theorem after_ctr (k : ℕ) : Holds (after m c k (Proc.devRef .tc main_v23_4)) k := by
  induction k with
  | zero => exact ctr_entry m c
  | succ k ih =>
    rw [after_succ, STEP_main_v23_4]
    unfold step_main_v23_4
    rw [show after m c k (Proc.devRef .tc main_v23_4) = fun _ => BitVec.ofNat 32 k from ih]
    funext i
    show BitVec.ofNat 32 k + 1#32 = BitVec.ofNat 32 (k + 1)
    exact (BitVec.ofNat_add k 1).symm

/-- The loop leaves what the chunks add and their decays as they were. -/
theorem after_keeps (k : ℕ) : after m c k (Proc.devRef .tc main_v23_0) = entryContents preI m c (Proc.devRef .tc main_v23_0)
    ∧ after m c k (Proc.devRef .tc main_v23_1) = entryContents preI m c (Proc.devRef .tc main_v23_1)
    ∧ after m c k (Proc.devRef .tc main_v23_2) = entryContents preI m c (Proc.devRef .tc main_v23_2)
    ∧ after m c k (Proc.devRef .tc main_v23_3) = entryContents preI m c (Proc.devRef .tc main_v23_3) := by
  induction k with
  | zero => exact ⟨rfl, rfl, rfl, rfl⟩
  | succ k ih =>
    rw [after_succ]
    exact ⟨(STEP_main_v23_0 _).trans ih.1, (STEP_main_v23_1 _).trans ih.2.1, (STEP_main_v23_2 _).trans ih.2.2.1, (STEP_main_v23_3 _).trans ih.2.2.2⟩

/-- The first direction's stored states. -/
theorem states_fwd (n : Fin 128) (b : Fin 2) (h : Fin 4) (a : Fin 128) (e : Fin 256) :
    (after m c 128 (Proc.devRef .tc main_v23_7) (ix5 n b h a e) : EReal)
      = along (fun t => t) (rowsOf (m ((c.tc : Thread nD τ).loc main_arg2)) b h) (rowsOf (m ((c.tc : Thread nD τ).loc main_arg4)) b h)
        (rowsOf (m ((c.tc : Thread nD τ).loc main_arg5)) b h) (start (m ((c.tc : Thread nD τ).loc main_arg7)) (m ((c.tc : Thread nD τ).loc main_arg8)) h) n.val a e := by
  obtain ⟨E0, E1, E2, E3, E5, E6⟩ := entry_at m c
  refine (loop_states (fun k => after m c k (Proc.devRef .tc main_v23_4)) (entryContents preI m c (Proc.devRef .tc main_v23_1))
    (entryContents preI m c (Proc.devRef .tc main_v23_0)) (fun k => after m c k (Proc.devRef .tc main_v23_5)) (fun k => after m c k (Proc.devRef .tc main_v23_7))
    (after_ctr m c) (fun k => ?_) (fun k => ?_) (fun t => t) (m ((c.tc : Thread nD τ).loc main_arg2)) (m ((c.tc : Thread nD τ).loc main_arg4))
    (m ((c.tc : Thread nD τ).loc main_arg5)) (start (m ((c.tc : Thread nD τ).loc main_arg7)) (m ((c.tc : Thread nD τ).loc main_arg8)))
    (fun n b h a => ?_) (fun n b h a e => ?_) (fun b h a e => ?_) b h a e 128 le_rfl).2 n n.isLt
  · rw [← (after_keeps m c k).1, ← (after_keeps m c k).2.1]
    show after m c (k + 1) (Proc.devRef .tc main_v23_5) = _
    rw [after_succ]
    exact STEP_main_v23_5 _
  · show after m c (k + 1) (Proc.devRef .tc main_v23_7) = _
    rw [after_succ]
    exact STEP_main_v23_7 _
  · rw [E1]; exact dec_fwd _ _ _ _ _ _ _ n b h a
  · rw [E0]; exact inc_fwd _ _ _ _ _ _ _ n b h a e
  · show (entryContents preI m c (Proc.devRef .tc main_v23_5) (ix4 b h a e) : EReal) = _
    rw [E5]; exact first_fwd _ _ _ _ _ _ _ b h a e

/-- The second direction's stored states. -/
theorem states_bwd (n : Fin 128) (b : Fin 2) (h : Fin 4) (a : Fin 128) (e : Fin 256) :
    (after m c 128 (Proc.devRef .tc main_v23_8) (ix5 n b h a e) : EReal)
      = along (fun t => 127 - t) (rowsOf (m ((c.tc : Thread nD τ).loc main_arg3)) b h) (rowsOf (m ((c.tc : Thread nD τ).loc main_arg4)) b h)
        (rowsOf (m ((c.tc : Thread nD τ).loc main_arg6)) b h) (fun _ _ => 0) n.val a e := by
  obtain ⟨E0, E1, E2, E3, E5, E6⟩ := entry_at m c
  refine (loop_states (fun k => after m c k (Proc.devRef .tc main_v23_4)) (entryContents preI m c (Proc.devRef .tc main_v23_3))
    (entryContents preI m c (Proc.devRef .tc main_v23_2)) (fun k => after m c k (Proc.devRef .tc main_v23_6)) (fun k => after m c k (Proc.devRef .tc main_v23_8))
    (after_ctr m c) (fun k => ?_) (fun k => ?_) (fun t => 127 - t) (m ((c.tc : Thread nD τ).loc main_arg3)) (m ((c.tc : Thread nD τ).loc main_arg4))
    (m ((c.tc : Thread nD τ).loc main_arg6)) (fun _ _ _ => 0)
    (fun n b h a => ?_) (fun n b h a e => ?_) (fun b h a e => ?_) b h a e 128 le_rfl).2 n n.isLt
  · rw [← (after_keeps m c k).2.2.1, ← (after_keeps m c k).2.2.2]
    show after m c (k + 1) (Proc.devRef .tc main_v23_6) = _
    rw [after_succ]
    exact STEP_main_v23_6 _
  · show after m c (k + 1) (Proc.devRef .tc main_v23_8) = _
    rw [after_succ]
    exact STEP_main_v23_8 _
  · rw [E3]; exact dec_bwd _ _ _ _ _ _ _ n b h a
  · rw [E2]; exact inc_bwd _ _ _ _ _ _ _ n b h a e
  · show (entryContents preI m c (Proc.devRef .tc main_v23_6) (ix4 b h a e) : EReal) = _
    rw [E6]; exact first_bwd b h a e

/-! ## The results -/

/-- The operations after the loop that make the first result. -/
theorem outF_eq (V : Valuation τ sig (Elt Ideal)) :
    out_main_v36 V = laid (rowsV (V (Proc.devRef .tc main_arg0)) (V (Proc.devRef .tc main_v23_7))) := rfl

/-- The reference's first result. -/
theorem refF : out_main_v36 (after m c 128) = resultF (m ((c.tc : Thread nD τ).loc main_arg0)) (m ((c.tc : Thread nD τ).loc main_arg2))
    (m ((c.tc : Thread nD τ).loc main_arg4)) (m ((c.tc : Thread nD τ).loc main_arg5)) (m ((c.tc : Thread nD τ).loc main_arg7)) (m ((c.tc : Thread nD τ).loc main_arg8)) := by
  rw [outF_eq, show after m c 128 (Proc.devRef .tc main_arg0) = m ((c.tc : Thread nD τ).loc main_arg0) from iter_main_arg0 m c 128]
  funext i
  refine (laid_apply _ i).trans ((rowsV_apply _ _ _ _ _ _).trans ?_)
  unfold resultF forth rowAt
  refine Finset.sum_congr rfl fun a _ => ?_
  exact congrArg (fun y : EReal => rowsOf (m ((c.tc : Thread nD τ).loc main_arg0)) (batchOf (i 0)) (headOf (i 1)) ((i 0).val % 8192) a * y) (states_fwd m c _ _ _ _ _)

/-- The operations after the loop that make the second result. -/
theorem outB_eq (V : Valuation τ sig (Elt Ideal)) :
    out_main_v39 V = laid (Host.reverse [2] (rowsV (Host.reverse [2] (V (Proc.devRef .tc main_arg1))) (V (Proc.devRef .tc main_v23_8)))) := rfl

/-- The reference's second result. -/
theorem refB : out_main_v39 (after m c 128) = resultB (m ((c.tc : Thread nD τ).loc main_arg1)) (m ((c.tc : Thread nD τ).loc main_arg3))
    (m ((c.tc : Thread nD τ).loc main_arg4)) (m ((c.tc : Thread nD τ).loc main_arg6)) := by
  rw [outB_eq, show after m c 128 (Proc.devRef .tc main_arg1) = m ((c.tc : Thread nD τ).loc main_arg1) from iter_main_arg1 m c 128]
  funext i
  have hs : (i 0).val % 8192 < 8192 := Nat.mod_lt _ (by decide)
  have e1 : ∀ Y : S2x4x8192x256.Idx → EReal, Host.reverse [2] Y (ix4 (batchOf (i 0)) (headOf (i 1)) (⟨(i 0).val % 8192, hs⟩ : Fin 8192) (featOf (i 1)))
      = Y (ix4 (batchOf (i 0)) (headOf (i 1)) (⟨8191 - (i 0).val % 8192, by omega⟩ : Fin 8192) (featOf (i 1))) := fun Y =>
    congrArg Y (at4 _ _ _ _ _ rfl rfl (by show 8192 - ((i 0).val % 8192 + 1) = 8191 - (i 0).val % 8192; omega) rfl)
  refine (laid_apply _ i).trans ((e1 _).trans ((rowsV_apply _ _ _ _ _ _).trans ?_))
  unfold resultB back rowAt
  refine Finset.sum_congr rfl fun a _ => ?_
  refine congrArg₂ (fun x y : EReal => x * y) ((rows_reverse _ _ _ _ (by show 8191 - (i 0).val % 8192 < 8192; omega) a).trans ?_) ((states_bwd m c _ _ _ _ _).trans ?_)
  · show rowsOf _ _ _ (8192 - 1 - (8191 - (i 0).val % 8192)) a = _
    rw [show 8192 - 1 - (8191 - (i 0).val % 8192) = (i 0).val % 8192 by omega]
  · show along _ _ _ _ _ ((8191 - (i 0).val % 8192) / 64) _ _ = along _ _ _ _ _ (127 - (i 0).val % 8192 / 64) _ _
    rw [show (8191 - (i 0).val % 8192) / 64 = 127 - (i 0).val % 8192 / 64 by omega]

end Loop

end Cert.Scan

end
-- ==== Proof.MixTile.lean ====
/-
  One point of the projections' kernel: four tiles of 256 rows. Of the stores a point makes, those of the attention's values
  and of the Fourier branch's transformed channels, each as one rule in the tile and in the head or the channel group.
-/
module

public import proofs.«01_k».proof.Proof.Gen.Kernel3Ideal.Value
public import Idealize.ShloMosaic.Lib.ValueLayout
public import Idealize.ShloMosaic.Lib.Pipeline.Value
public import Idealize.ShloMosaic.Lib.WritesUnit
public import Idealize.ShloMosaic.Lib.Tactic

@[expose] public section

set_option maxRecDepth 16384

noncomputable section

namespace Cert.Mix

open Cert.Kernel3Ideal Cert.Kernel3Ideal.Gen Idealize.ShloMosaic Idealize.ShloMosaic.TcCoe Idealize.SL.Sem

theorem inbX (n : ℕ) : ∀ a, (![256 * (n % 4), 0] : Fin 2 → ℕ) a + S256x1024.size a ≤ S1024x1024.size a := by
  intro a
  have := Nat.mod_lt n (show 0 < 4 by decide)
  match a with
  | ⟨0, _⟩ => show 256 * (n % 4) + 256 ≤ 1024; omega
  | ⟨1, _⟩ => show 0 + 1024 ≤ 1024; omega

theorem inbV (h : Fin 4) (n : ℕ) : ∀ a, (![h.val, 256 * (n % 4), 0] : Fin 3 → ℕ) a + S1x256x256.size a ≤ S4x1024x256.size a := by
  intro a
  have := Nat.mod_lt n (show 0 < 4 by decide)
  match a with
  | ⟨0, _⟩ => show h.val + 1 ≤ 4; omega
  | ⟨1, _⟩ => show 256 * (n % 4) + 256 ≤ 1024; omega
  | ⟨2, _⟩ => show 0 + 256 ≤ 256; omega

theorem inbC (s : Fin 2) (g : Fin 4) (n : ℕ) :
    ∀ a, (![s.val, 0, 256 * (n % 4), 128 * g.val] : Fin 4 → ℕ) a + S1x1x256x128.size a ≤ S2x1x1024x512.size a := by
  intro a
  have := Nat.mod_lt n (show 0 < 4 by decide)
  match a with
  | ⟨0, _⟩ => show s.val + 1 ≤ 2; omega
  | ⟨1, _⟩ => show 0 + 1 ≤ 1; omega
  | ⟨2, _⟩ => show 256 * (n % 4) + 256 ≤ 1024; omega
  | ⟨3, _⟩ => show 128 * g.val + 128 ≤ 512; omega

theorem inG (g : Fin 4) : S256x640.Slices ![0, 128 * g.val] S256x256 := by
  refine ⟨rfl, fun a => ?_⟩
  match a with
  | ⟨0, _⟩ => show 0 + 256 ≤ 256; omega
  | ⟨1, _⟩ => show 128 * g.val + 256 ≤ 640; omega

theorem inS (s : Fin 2) : S256x256.Slices ![0, 128 * s.val] S256x128 := by
  refine ⟨rfl, fun a => ?_⟩
  match a with
  | ⟨0, _⟩ => show 0 + 256 ≤ 256; omega
  | ⟨1, _⟩ => show 128 * s.val + 128 ≤ 256; omega

variable {F : FTy → Type} [FloatOps F]

/-- The two tables' products with the columns of one channel group. -/
def group (f : FVec F S256x640 .bf16) (cs : FVec F S256x256 .bf16) (g : Fin 4) : FVec F S256x256 .f32 :=
  matmul dot_S256x256_S256x256_S256x256_1_0_0_1_n_n none (extractStridedSlice S256x256 ![0, 128 * g.val] f (inG g)) cs
    (constant S256x256 .f32 0x00000000#32)

/-- One table's part of a channel group's products, as it is stored. -/
def half (p : FVec F S256x256 .f32) (s : Fin 2) : FVec F S1x1x256x128 .bf16 :=
  shapeCast S1x1x256x128 (truncf .bf16 (extractStridedSlice S256x128 ![0, 128 * s.val] p (inS s)) bitsLt_bf16_f32)
    shapeCasts_S256x128_S1x1x256x128

/-- A tile's stores of the four heads' values; `lo` and `hi` are the value projection's two halves. -/
def vals (n : ℕ) (xn : FVec F S256x1024 .bf16) (lo hi : Vec F S1024x512 .bf16) (L : List (View.Piece (Elt F) S4x1024x256 .bf16)) :
    List (View.Piece (Elt F) S4x1024x256 .bf16) :=
  ⟨Rect.unit ![(3 : Fin 4).val, 256 * (n % 4), 0] S1x256x256.size (inbV 3 n), k0_pay40 xn hi⟩ ::
  ⟨Rect.unit ![(2 : Fin 4).val, 256 * (n % 4), 0] S1x256x256.size (inbV 2 n), k0_pay39 xn hi⟩ ::
  ⟨Rect.unit ![(1 : Fin 4).val, 256 * (n % 4), 0] S1x256x256.size (inbV 1 n), k0_pay40 xn lo⟩ ::
  ⟨Rect.unit ![(0 : Fin 4).val, 256 * (n % 4), 0] S1x256x256.size (inbV 0 n), k0_pay39 xn lo⟩ :: L

/-- A tile's stores of one channel group. -/
def chan (n : ℕ) (f : FVec F S256x640 .bf16) (cs : FVec F S256x256 .bf16) (g : Fin 4)
    (L : List (View.Piece (Elt F) S2x1x1024x512 .bf16)) : List (View.Piece (Elt F) S2x1x1024x512 .bf16) :=
  ⟨Rect.unit ![(1 : Fin 2).val, 0, 256 * (n % 4), 128 * g.val] S1x1x256x128.size (inbC 1 g n), half (group f cs g) 1⟩ ::
  ⟨Rect.unit ![(0 : Fin 2).val, 0, 256 * (n % 4), 128 * g.val] S1x1x256x128.size (inbC 0 g n), half (group f cs g) 0⟩ :: L

/-- A tile's stores of the four channel groups. -/
def chans (n : ℕ) (f : FVec F S256x640 .bf16) (cs : FVec F S256x256 .bf16)
    (L : List (View.Piece (Elt F) S2x1x1024x512 .bf16)) : List (View.Piece (Elt F) S2x1x1024x512 .bf16) :=
  chan n f cs 3 (chan n f cs 2 (chan n f cs 1 (chan n f cs 0 L)))

section Point

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S16x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S4x1024x256 .bf16) (harg14 : arg14.IsWhole) (arg15 : Memref sig .tc .vmem S1024x1024 .bf16) (harg15 : arg15.IsWhole) (arg16 : Memref sig .tc .vmem S8x1024x128 .bf16) (harg16 : arg16.IsWhole) (arg17 : Memref sig .tc .vmem S8x1024x128 .bf16) (harg17 : arg17.IsWhole) (arg18 : Memref sig .tc .vmem S16x1024 .f32) (harg18 : arg18.IsWhole) (arg19 : Memref sig .tc .vmem S2x1x1024x512 .bf16) (harg19 : arg19.IsWhole)
  (x0 : Vec F S1024x1024 .f32) (x1 : Vec F S1x1024 .f32) (x2 : Vec F S1024x2048 .bf16) (x3 : Vec F S1024x1024 .bf16) (x4 : Vec F S16x512 .f32) (x5 : Vec F S16x512 .f32) (x6 : Vec F S1x512 .f32) (x7 : Vec F S1x512 .f32) (x8 : Vec F S256x256 .f32) (x9 : Vec F S256x256 .bf16) (x10 : Vec F S256x256 .bf16) (x11 : Vec F S256x256 .f32) (x12 : Vec F S256x256 .f32)

/-- Tile `n`'s rows of the residual stream. -/
def ldX (n : ℕ) : Vec F S256x1024 .f32 :=
  View.readAt (Elt F) arg1.view (Rect.unit (s := S1024x1024) ![256 * (n % 4), 0] S256x1024.size (inbX n)).toLoadRect (harg1.unread x0)

/-- The normalisation's scale. -/
def ldN : Vec F S1x1024 .f32 :=
  View.readAt (Elt F) arg2.view (Rect.unit (s := S1x1024) ![0, 0] S1x1024.size inb_S1x1024_S1x1024_0_0).toLoadRect (harg2.unread x1)

/-- The value projection's first half. -/
def ldLo : Vec F S1024x512 .bf16 :=
  View.readAt (Elt F) arg3.view (Rect.unit (s := S1024x2048) ![0, 1024] S1024x512.size inb_S1024x2048_S1024x512_0_1024).toLoadRect (harg3.unread x2)

/-- The value projection's second half. -/
def ldHi : Vec F S1024x512 .bf16 :=
  View.readAt (Elt F) arg3.view (Rect.unit (s := S1024x2048) ![0, 1536] S1024x512.size inb_S1024x2048_S1024x512_0_1536).toLoadRect (harg3.unread x2)

/-- The columns that hold the Fourier branch's projection. -/
def ldF : Vec F S1024x640 .bf16 :=
  View.readAt (Elt F) arg4.view (Rect.unit (s := S1024x1024) ![0, 0] S1024x640.size inb_S1024x1024_S1024x640_0_0).toLoadRect (harg4.unread x3)

/-- The tables. -/
def ldC : Vec F S256x256 .f32 :=
  View.readAt (Elt F) arg9.view (Rect.unit (s := S256x256) ![0, 0] S256x256.size inb_S256x256_S256x256_0_0).toLoadRect (harg9.unread x8)

/-- Tile `n`'s normalised rows. -/
def normed (n : ℕ) : FVec F S256x1024 .bf16 := k0_pay11 (k0_pay10 (ldX arg1 harg1 x0 n)) (ldN arg2 harg2 x1)

/-- Tile `n`'s rows of the Fourier branch's projection. -/
def fcols (n : ℕ) : FVec F S256x640 .bf16 := k0_pay18 (normed arg1 harg1 arg2 harg2 x0 x1 n) (ldF arg4 harg4 x3)

/-- The stores of tiles `0` to `n`, last first, of the values. -/
def valsTo (n : ℕ) : List (View.Piece (Elt F) S4x1024x256 .bf16) :=
  Nat.rec (motive := fun _ => List (View.Piece (Elt F) S4x1024x256 .bf16)) []
    (fun k L => vals k (normed arg1 harg1 arg2 harg2 x0 x1 k) (ldLo arg3 harg3 x2) (ldHi arg3 harg3 x2) L) n

/-- The stores of tiles `0` to `n`, last first, of the transformed channels. -/
def chansTo (n : ℕ) : List (View.Piece (Elt F) S2x1x1024x512 .bf16) :=
  Nat.rec (motive := fun _ => List (View.Piece (Elt F) S2x1x1024x512 .bf16)) []
    (fun k L => chans k (fcols arg1 harg1 arg2 harg2 arg4 harg4 x0 x1 x3 k) (k0_pay3 (ldC arg9 harg9 x8)) L) n

/-- A point's stores of the values. -/
theorem run_vals :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12).1
      = valsTo arg1 harg1 arg2 harg2 arg3 harg3 x0 x1 x2 4 := by
  sl_kernel_rfl

/-- A point's stores of the transformed channels. -/
theorem run_chans :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12).2.2.2.2.2.1
      = chansTo arg1 harg1 arg2 harg2 arg4 harg4 arg9 harg9 x0 x1 x3 x8 4 := by
  sl_kernel_rfl

end Point

end Cert.Mix

end
-- ==== Proof.MixStep.lean ====
/-
  What a point of the projections' kernel leaves in its blocks of the values and of the transformed channels, entry by
  entry: sums of products of the normalised rows of its block of the residual stream.
-/
module

public import proofs.«01_k».proof.Proof.MixTile
public import proofs.«01_k».proof.Proof.TileOps
public import Idealize.ShloMosaic.Lib.VecWindow
public import Idealize.ShloMosaic.Lib.Pipeline.ValueKit

@[expose] public section

noncomputable section

namespace Cert.Mix

open Cert.Kernel3Ideal Cert.Kernel3Ideal.Gen Cert.Tile Idealize.ShloMosaic.TcCoe Idealize.ShloMosaic.ValueIdx Idealize.SL.Sem
open Idealize.ShloMosaic hiding ix2 ix3 ix4 eq_ix2 eq_ix3 eq_ix4 addf_apply mulf_apply

/-- The normalisation of a tile is the normalisation of its rows. -/
theorem pay11_eq (x : FVec Ideal S256x1024 .f32) (g : FVec Ideal S1x1024 .f32) : k0_pay11 (F := Ideal) (k0_pay10 x) g = rmsB Row.len1024 x g := by
  have e1 : k0_pay10 x = x := shapeCast_self _ _
  have e2 : shapeCast S1x1024 g shapeCasts_S1x1024_S1x1024 = g := shapeCast_self _ _
  rw [e1]
  unfold k0_pay11
  dsimp only
  rw [e2]
  exact (truncf_eq (ψ := .bf16) _ bitsLt_bf16_f32).trans <| rms_eq 0x44800000#32 x g _ _ _ _ (.inl rfl) rfl

/-- The product of a tile with a half of the value projection. -/
theorem pay38_eq (xn : FVec Ideal S256x1024 .bf16) (w : Vec Ideal S1024x512 .bf16) : k0_pay38 xn w = mul xn w := by
  have e : shapeCast S1024x512 w shapeCasts_S1024x512_S1024x512 = w := shapeCast_self _ _
  unfold k0_pay38
  dsimp only
  rw [e]
  exact (truncf_eq (ψ := .bf16) _ bitsLt_bf16_f32).trans (matmul_eq (φ₁ := .bf16) (φ₂ := .bf16) none _ rfl xn w)

/-- The product of a tile with the Fourier branch's columns. -/
theorem pay18_eq (xn : FVec Ideal S256x1024 .bf16) (w : Vec Ideal S1024x640 .bf16) : k0_pay18 xn w = mul xn w := by
  have e : shapeCast S1024x640 w shapeCasts_S1024x640_S1024x640 = w := shapeCast_self _ _
  unfold k0_pay18
  dsimp only
  rw [e]
  exact (truncf_eq (ψ := .bf16) _ bitsLt_bf16_f32).trans (matmul_eq (φ₁ := .bf16) (φ₂ := .bf16) none _ rfl xn w)

/-- The tables in the format the products read. -/
theorem pay3_eq (w : Vec Ideal S256x256 .f32) : k0_pay3 w = w := shapeCast_self _ _

theorem pay39_apply (xn : FVec Ideal S256x1024 .bf16) (w : Vec Ideal S1024x512 .bf16) (R e : Fin 256) :
    k0_pay39 xn w (ix3 (0 : Fin 1) R e) = ∑ k : Fin 1024, xn (ix2 R k) * w (ix2 k (⟨e.val, by omega⟩ : Fin 512)) := by
  unfold k0_pay39
  rw [shapeCast_ab_1ab_apply, extractStridedSlice_apply _ _ _ _ (ix2 R (⟨e.val, by omega⟩ : Fin 512)) (fun a => by
    match a with
    | ⟨0, _⟩ => show R.val = 0 + R.val; omega
    | ⟨1, _⟩ => show e.val = 0 + e.val; omega), pay38_eq]
  rfl

theorem pay40_apply (xn : FVec Ideal S256x1024 .bf16) (w : Vec Ideal S1024x512 .bf16) (R e : Fin 256) :
    k0_pay40 xn w (ix3 (0 : Fin 1) R e) = ∑ k : Fin 1024, xn (ix2 R k) * w (ix2 k (⟨256 + e.val, by omega⟩ : Fin 512)) := by
  unfold k0_pay40
  rw [shapeCast_ab_1ab_apply, extractStridedSlice_apply _ _ _ _ (ix2 R (⟨256 + e.val, by omega⟩ : Fin 512)) (fun a => by
    match a with
    | ⟨0, _⟩ => show R.val = 0 + R.val; omega
    | ⟨1, _⟩ => rfl), pay38_eq]
  rfl

theorem half_apply (f : FVec Ideal S256x640 .bf16) (cs : FVec Ideal S256x256 .bf16) (g : Fin 4) (s : Fin 2) (R : Fin 256) (c : Fin 128) :
    half (group f cs g) s (ix4 (0 : Fin 1) (0 : Fin 1) R c)
      = ∑ k : Fin 256, f (ix2 R (⟨128 * g.val + k.val, by omega⟩ : Fin 640)) * cs (ix2 k (⟨128 * s.val + c.val, by omega⟩ : Fin 256)) := by
  unfold half
  rw [shapeCast_apply _ _ _ (ix2 R c) (by
    rw [Shape.rowMajor_val_two, Shape.rowMajor_val_four]
    show R.val * 128 + c.val = ((0 * 1 + 0) * 256 + R.val) * 128 + c.val
    omega)]
  show extractStridedSlice S256x128 ![0, 128 * s.val] (group f cs g) (inS s) (ix2 R c) = _
  rw [extractStridedSlice_apply _ _ _ _ (ix2 R (⟨128 * s.val + c.val, by omega⟩ : Fin 256)) (fun a => by
    match a with
    | ⟨0, _⟩ => show R.val = 0 + R.val; omega
    | ⟨1, _⟩ => rfl)]
  unfold group
  refine (congrFun (matmul_eq (φ₁ := .bf16) (φ₂ := .bf16) none dot_S256x256_S256x256_S256x256_1_0_0_1_n_n rfl
    (extractStridedSlice S256x256 ![0, 128 * g.val] f (inG g)) cs) (ix2 R (⟨128 * s.val + c.val, by omega⟩ : Fin 256))).trans ?_
  have hs : ∀ k : Fin 256, extractStridedSlice S256x256 ![0, 128 * g.val] f (inG g) (ix2 R k)
      = f (ix2 R (⟨128 * g.val + k.val, by omega⟩ : Fin 640)) := fun k =>
    extractStridedSlice_apply _ _ _ _ _ (fun a => by
      match a with
      | ⟨0, _⟩ => show R.val = 0 + R.val; omega
      | ⟨1, _⟩ => rfl)
  have hm : ∀ (A B : Block 256 256) (r c : Fin 256), mul A B (ix2 r c) = ∑ k : Fin 256, A (ix2 r k) * B (ix2 k c) := fun _ _ _ _ => rfl
  exact (hm _ _ _ _).trans <| Finset.sum_congr rfl fun k _ =>
    congrArg (fun y : EReal => y * cs (ix2 k (⟨128 * s.val + c.val, by omega⟩ : Fin 256))) (hs k)

section Pieces

variable (a1 : Memref sig .tc .vmem S1024x1024 .f32) (h1 : a1.IsWhole) (a2 : Memref sig .tc .vmem S1x1024 .f32) (h2 : a2.IsWhole)
  (a3 : Memref sig .tc .vmem S1024x2048 .bf16) (h3 : a3.IsWhole) (a4 : Memref sig .tc .vmem S1024x1024 .bf16) (h4 : a4.IsWhole)
  (a9 : Memref sig .tc .vmem S256x256 .f32) (h9 : a9.IsWhole)
  (x0 : Vec Ideal S1024x1024 .f32) (x1 : Vec Ideal S1x1024 .f32) (x2 : Vec Ideal S1024x2048 .bf16) (x3 : Vec Ideal S1024x1024 .bf16)
  (x8 : Vec Ideal S256x256 .f32)

/-! ## Loads -/

theorem ldX_apply (n : ℕ) (R : Fin 256) (k : Fin 1024) (p : Fin 1024) (hp : p.val = 256 * (n % 4) + R.val) :
    ldX a1 h1 x0 n (ix2 R k) = x0 (ix2 p k) := by
  unfold ldX
  rw [View.readAt_eq_ld, h1.read_unread]
  refine View.ld_unit_apply_of _ _ _ _ _ _ fun ax => ?_
  match ax with
  | ⟨0, _⟩ => exact hp
  | ⟨1, _⟩ => show k.val = 0 + k.val; omega

theorem ldN_eq : ldN a2 h2 x1 = x1 := by
  unfold ldN
  exact (View.readAt_full _ _ _).trans (h2.read_unread _)

theorem ldC_eq : ldC a9 h9 x8 = x8 := by
  unfold ldC
  exact (View.readAt_full _ _ _).trans (h9.read_unread _)

theorem ldLo_apply (k : Fin 1024) (j : Fin 512) : ldLo a3 h3 x2 (ix2 k j) = x2 (ix2 k (⟨1024 + j.val, by omega⟩ : Fin 2048)) := by
  unfold ldLo
  rw [View.readAt_eq_ld, h3.read_unread]
  refine View.ld_unit_apply_of _ _ _ _ _ _ fun ax => ?_
  match ax with
  | ⟨0, _⟩ => show k.val = 0 + k.val; omega
  | ⟨1, _⟩ => rfl

theorem ldHi_apply (k : Fin 1024) (j : Fin 512) : ldHi a3 h3 x2 (ix2 k j) = x2 (ix2 k (⟨1536 + j.val, by omega⟩ : Fin 2048)) := by
  unfold ldHi
  rw [View.readAt_eq_ld, h3.read_unread]
  refine View.ld_unit_apply_of _ _ _ _ _ _ fun ax => ?_
  match ax with
  | ⟨0, _⟩ => show k.val = 0 + k.val; omega
  | ⟨1, _⟩ => rfl

theorem ldF_apply (k : Fin 1024) (j : Fin 640) : ldF a4 h4 x3 (ix2 k j) = x3 (ix2 k (⟨j.val, by omega⟩ : Fin 1024)) := by
  unfold ldF
  rw [View.readAt_eq_ld, h4.read_unread]
  refine View.ld_unit_apply_of _ _ _ _ _ _ fun ax => ?_
  match ax with
  | ⟨0, _⟩ => show k.val = 0 + k.val; omega
  | ⟨1, _⟩ => show j.val = 0 + j.val; omega

/-! ## Tiles -/

/-- A row of the block, normalised. -/
def rowN (p : Fin 1024) : Fin 1024 → EReal := Row.rms Row.len1024 (fun k => x0 (ix2 p k)) (fun k => x1 (ix2 (0 : Fin 1) k))

theorem normed_apply (n : ℕ) (R : Fin 256) (k : Fin 1024) (p : Fin 1024) (hp : p.val = 256 * (n % 4) + R.val) :
    normed a1 h1 a2 h2 x0 x1 n (ix2 R k) = rowN x0 x1 p k := by
  unfold normed
  rw [pay11_eq, ldN_eq]
  show Row.rms Row.len1024 (row (ldX a1 h1 x0 n) R) (row x1 0) k = _
  rw [show row (ldX a1 h1 x0 n) R = fun k => x0 (ix2 p k) from funext fun k => ldX_apply a1 h1 x0 n R k p hp]
  rfl

/-- An entry of the values: the normalised row times a column of the value projection. -/
def valAt (h : Fin 4) (p : Fin 1024) (e : Fin 256) : EReal :=
  ∑ k : Fin 1024, rowN x0 x1 p k * x2 (ix2 k (⟨1024 + 256 * h.val + e.val, by omega⟩ : Fin 2048))

/-- An entry of the transformed channels: the normalised row's projections to a channel group times a column of the tables. -/
def chanAt (s : Fin 2) (p : Fin 1024) (J : Fin 512) : EReal :=
  ∑ k : Fin 256, (∑ l : Fin 1024, rowN x0 x1 p l * x3 (ix2 l (⟨128 * (J.val / 128) + k.val, by omega⟩ : Fin 1024)))
    * x8 (ix2 k (⟨128 * s.val + J.val % 128, by omega⟩ : Fin 256))

theorem lo_apply (n : ℕ) (R e : Fin 256) (p : Fin 1024) (hp : p.val = 256 * (n % 4) + R.val) :
    k0_pay39 (normed a1 h1 a2 h2 x0 x1 n) (ldLo a3 h3 x2) (ix3 (0 : Fin 1) R e) = valAt x0 x1 x2 0 p e
    ∧ k0_pay40 (normed a1 h1 a2 h2 x0 x1 n) (ldLo a3 h3 x2) (ix3 (0 : Fin 1) R e) = valAt x0 x1 x2 1 p e := by
  rw [pay39_apply, pay40_apply]
  refine ⟨Finset.sum_congr rfl fun k _ => ?_, Finset.sum_congr rfl fun k _ => ?_⟩
  · rw [normed_apply a1 h1 a2 h2 x0 x1 n R k p hp, ldLo_apply]
    exact congrArg (fun j => _ * x2 (ix2 k j)) (Fin.ext (by show 1024 + e.val = 1024 + 256 * 0 + e.val; omega))
  · rw [normed_apply a1 h1 a2 h2 x0 x1 n R k p hp, ldLo_apply]
    exact congrArg (fun j => _ * x2 (ix2 k j)) (Fin.ext (by show 1024 + (256 + e.val) = 1024 + 256 * 1 + e.val; omega))

theorem hi_apply (n : ℕ) (R e : Fin 256) (p : Fin 1024) (hp : p.val = 256 * (n % 4) + R.val) :
    k0_pay39 (normed a1 h1 a2 h2 x0 x1 n) (ldHi a3 h3 x2) (ix3 (0 : Fin 1) R e) = valAt x0 x1 x2 2 p e
    ∧ k0_pay40 (normed a1 h1 a2 h2 x0 x1 n) (ldHi a3 h3 x2) (ix3 (0 : Fin 1) R e) = valAt x0 x1 x2 3 p e := by
  rw [pay39_apply, pay40_apply]
  refine ⟨Finset.sum_congr rfl fun k _ => ?_, Finset.sum_congr rfl fun k _ => ?_⟩
  · rw [normed_apply a1 h1 a2 h2 x0 x1 n R k p hp, ldHi_apply]
    exact congrArg (fun j => _ * x2 (ix2 k j)) (Fin.ext (by show 1536 + e.val = 1024 + 256 * 2 + e.val; omega))
  · rw [normed_apply a1 h1 a2 h2 x0 x1 n R k p hp, ldHi_apply]
    exact congrArg (fun j => _ * x2 (ix2 k j)) (Fin.ext (by show 1536 + (256 + e.val) = 1024 + 256 * 3 + e.val; omega))

theorem half_val (n : ℕ) (g : Fin 4) (s : Fin 2) (R : Fin 256) (c : Fin 128) (p : Fin 1024) (hp : p.val = 256 * (n % 4) + R.val) (J : Fin 512)
    (hJ : J.val = 128 * g.val + c.val) :
    half (group (fcols a1 h1 a2 h2 a4 h4 x0 x1 x3 n) (k0_pay3 (ldC a9 h9 x8)) g) s (ix4 (0 : Fin 1) (0 : Fin 1) R c) = chanAt x0 x1 x3 x8 s p J := by
  have hf : ∀ j : Fin 640, fcols a1 h1 a2 h2 a4 h4 x0 x1 x3 n (ix2 R j)
      = ∑ l : Fin 1024, rowN x0 x1 p l * x3 (ix2 l (⟨j.val, by omega⟩ : Fin 1024)) := by
    intro j
    unfold fcols
    rw [pay18_eq]
    show ∑ l : Fin 1024, normed a1 h1 a2 h2 x0 x1 n (ix2 R l) * ldF a4 h4 x3 (ix2 l j) = _
    refine Finset.sum_congr rfl fun l _ => ?_
    rw [normed_apply a1 h1 a2 h2 x0 x1 n R l p hp, ldF_apply]
  have e1 : 128 * g.val = 128 * (J.val / 128) := by omega
  have e2 : c.val = J.val % 128 := by omega
  rw [half_apply, pay3_eq, ldC_eq]
  refine Finset.sum_congr rfl fun k _ => ?_
  rw [hf]
  refine congrArg₂ (· * ·) (Finset.sum_congr rfl fun l _ => congrArg (fun j : Fin 1024 => rowN x0 x1 p l * (x3 (ix2 l j) : EReal)) (Fin.ext ?_))
    (congrArg (fun j => x8 (ix2 k j)) (Fin.ext ?_))
  · show 128 * g.val + k.val = 128 * (J.val / 128) + k.val; omega
  · show 128 * s.val + c.val = 128 * s.val + J.val % 128; omega

/-! ## A point's stores -/

theorem allAt_vals (h : Fin 4) (p : Fin 1024) (e : Fin 256) : ∀ n, View.AllAt (valsTo a1 h1 a2 h2 a3 h3 x0 x1 x2 n) (ix3 h p e) (valAt x0 x1 x2 h p e)
  | 0 => View.allAt_nil _ _
  | n + 1 => by
    show View.AllAt (vals n (normed a1 h1 a2 h2 x0 x1 n) (ldLo a3 h3 x2) (ldHi a3 h3 x2) (valsTo a1 h1 a2 h2 a3 h3 x0 x1 x2 n)) _ _
    unfold vals
    have at_ : ∀ (H : Fin 4) (w : FVec Ideal S1x256x256 .bf16), (∀ R e (p : Fin 1024), p.val = 256 * (n % 4) + R.val →
        w (ix3 (0 : Fin 1) R e) = valAt x0 x1 x2 H p e) →
        View.TileAt (Val := Elt Ideal) (S := S4x1024x256) (e := .bf16) (ix3 h p e) ![H.val, 256 * (n % 4), 0] S1x256x256.size w (valAt x0 x1 x2 h p e) := by
      intro H w hw y hy
      obtain ⟨a, R, c, rfl⟩ : ∃ (a : Fin 1) (R c : Fin 256), y = ix3 a R c := ⟨y 0, y 1, y 2, eq_ix3 y⟩
      obtain rfl : a = 0 := Subsingleton.elim _ _
      have g0 : h.val = H.val + 0 := hy 0
      have g1 : p.val = 256 * (n % 4) + R.val := hy 1
      have g2 : e.val = 0 + c.val := hy 2
      obtain rfl : h = H := Fin.ext (by omega)
      obtain rfl : e = c := Fin.ext (by omega)
      exact hw R e p g1
    refine View.allAt_cons_unit _ _ _ _ _ (at_ 3 _ fun R e p hp => (hi_apply a1 h1 a2 h2 a3 h3 x0 x1 x2 n R e p hp).2) ?_
    refine View.allAt_cons_unit _ _ _ _ _ (at_ 2 _ fun R e p hp => (hi_apply a1 h1 a2 h2 a3 h3 x0 x1 x2 n R e p hp).1) ?_
    refine View.allAt_cons_unit _ _ _ _ _ (at_ 1 _ fun R e p hp => (lo_apply a1 h1 a2 h2 a3 h3 x0 x1 x2 n R e p hp).2) ?_
    exact View.allAt_cons_unit _ _ _ _ _ (at_ 0 _ fun R e p hp => (lo_apply a1 h1 a2 h2 a3 h3 x0 x1 x2 n R e p hp).1) (allAt_vals h p e n)

theorem allAt_chan (s : Fin 2) (p : Fin 1024) (J : Fin 512) (n : ℕ) (g : Fin 4) (L : List (View.Piece (Elt Ideal) S2x1x1024x512 .bf16))
    (hL : View.AllAt L (ix4 s (0 : Fin 1) p J) (chanAt x0 x1 x3 x8 s p J)) :
    View.AllAt (chan n (fcols a1 h1 a2 h2 a4 h4 x0 x1 x3 n) (k0_pay3 (ldC a9 h9 x8)) g L) (ix4 s (0 : Fin 1) p J) (chanAt x0 x1 x3 x8 s p J) := by
  have at_ : ∀ S : Fin 2, View.TileAt (Val := Elt Ideal) (S := S2x1x1024x512) (e := .bf16) (ix4 s (0 : Fin 1) p J) ![S.val, 0, 256 * (n % 4), 128 * g.val]
      S1x1x256x128.size (half (group (fcols a1 h1 a2 h2 a4 h4 x0 x1 x3 n) (k0_pay3 (ldC a9 h9 x8)) g) S) (chanAt x0 x1 x3 x8 s p J) := by
    intro S y hy
    obtain ⟨a, b, R, c, rfl⟩ : ∃ (a b : Fin 1) (R : Fin 256) (c : Fin 128), y = ix4 a b R c := ⟨y 0, y 1, y 2, y 3, eq_ix4 y⟩
    obtain rfl : a = 0 := Subsingleton.elim _ _
    obtain rfl : b = 0 := Subsingleton.elim _ _
    have g0 : s.val = S.val + 0 := hy 0
    have g2 : p.val = 256 * (n % 4) + R.val := hy 2
    have g3 : J.val = 128 * g.val + c.val := hy 3
    obtain rfl : s = S := Fin.ext (by omega)
    exact half_val a1 h1 a2 h2 a4 h4 a9 h9 x0 x1 x3 x8 n g s R c p g2 J g3
  unfold chan
  exact View.allAt_cons_unit _ _ _ _ _ (at_ 1) (View.allAt_cons_unit _ _ _ _ _ (at_ 0) hL)

theorem allAt_chans (s : Fin 2) (p : Fin 1024) (J : Fin 512) : ∀ n,
    View.AllAt (chansTo a1 h1 a2 h2 a4 h4 a9 h9 x0 x1 x3 x8 n) (ix4 s (0 : Fin 1) p J) (chanAt x0 x1 x3 x8 s p J)
  | 0 => View.allAt_nil _ _
  | n + 1 => by
    show View.AllAt (chans n (fcols a1 h1 a2 h2 a4 h4 x0 x1 x3 n) (k0_pay3 (ldC a9 h9 x8)) (chansTo a1 h1 a2 h2 a4 h4 a9 h9 x0 x1 x3 x8 n)) _ _
    unfold chans
    exact allAt_chan a1 h1 a2 h2 a4 h4 a9 h9 x0 x1 x3 x8 s p J n 3 _ (allAt_chan a1 h1 a2 h2 a4 h4 a9 h9 x0 x1 x3 x8 s p J n 2 _
      (allAt_chan a1 h1 a2 h2 a4 h4 a9 h9 x0 x1 x3 x8 s p J n 1 _ (allAt_chan a1 h1 a2 h2 a4 h4 a9 h9 x0 x1 x3 x8 s p J n 0 _
        (allAt_chans s p J n))))

end Pieces

section Point

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S16x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S4x1024x256 .bf16) (harg14 : arg14.IsWhole) (arg15 : Memref sig .tc .vmem S1024x1024 .bf16) (harg15 : arg15.IsWhole) (arg16 : Memref sig .tc .vmem S8x1024x128 .bf16) (harg16 : arg16.IsWhole) (arg17 : Memref sig .tc .vmem S8x1024x128 .bf16) (harg17 : arg17.IsWhole) (arg18 : Memref sig .tc .vmem S16x1024 .f32) (harg18 : arg18.IsWhole) (arg19 : Memref sig .tc .vmem S2x1x1024x512 .bf16) (harg19 : arg19.IsWhole)
  (x0 : Vec Ideal S1024x1024 .f32) (x1 : Vec Ideal S1x1024 .f32) (x2 : Vec Ideal S1024x2048 .bf16) (x3 : Vec Ideal S1024x1024 .bf16) (x4 : Vec Ideal S16x512 .f32) (x5 : Vec Ideal S16x512 .f32) (x6 : Vec Ideal S1x512 .f32) (x7 : Vec Ideal S1x512 .f32) (x8 : Vec Ideal S256x256 .f32) (x9 : Vec Ideal S256x256 .bf16) (x10 : Vec Ideal S256x256 .bf16) (x11 : Vec Ideal S256x256 .f32) (x12 : Vec Ideal S256x256 .f32)

/-- The block of the values a point leaves. -/
theorem out_vals (h : Fin 4) (p : Fin 1024) (e : Fin 256) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 (ix3 h p e)
      = valAt x0 x1 x2 h p e := by
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 (ix3 h p e)
  unfold out0_A_13
  rw [run_vals] at hc ⊢
  exact (View.read_writes_apply_eq_canon _ _ _ _ hc).trans (View.canon_eq_of_allAt _ _ _ hc (allAt_vals arg1 harg1 arg2 harg2 arg3 harg3 x0 x1 x2 h p e 4))

/-- The block of the transformed channels a point leaves. -/
theorem out_chans (s : Fin 2) (p : Fin 1024) (J : Fin 512) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 (ix4 s (0 : Fin 1) p J)
      = chanAt x0 x1 x3 x8 s p J := by
  have hc := cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 (ix4 s (0 : Fin 1) p J)
  unfold out0_A_18
  rw [run_chans] at hc ⊢
  exact (View.read_writes_apply_eq_canon _ _ _ _ hc).trans (View.canon_eq_of_allAt _ _ _ hc (allAt_chans arg1 harg1 arg2 harg2 arg4 harg4 arg9 harg9 x0 x1 x3 x8 s p J 4))

end Point

end Cert.Mix

end
-- ==== Proof.MixSpec.lean ====
/-
  The two results of the projections, as functions of their argument arrays: the attention's values head by head, and the
  Fourier branch's channels transformed group by group. Both programs are shown to compute them, the kernel in
  `MixValue.lean` and the reference in `MixRef.lean`.
-/
module

public import proofs.«01_k».proof.Proof.TailSpec

@[expose] public section

noncomputable section

namespace Cert.Mix

open Idealize.ShloMosaic Cert.Tail

section Spec

variable (x : Arr 3 ![2, 8192, 1024]) (nw : Arr 2 ![1, 1024]) (w : Arr 3 ![1, 1024, 5664])

/-- The normalised row of token `t` of sequence `b`. -/
def normRow (b : Fin 2) (t : Fin 8192) : Fin 1024 → EReal :=
  Row.rms Row.len1024 (fun k => x (ix3 b t k)) (fun k => nw (ix2 (0 : Fin 1) k))

/-- Column `j` of its projection. -/
def proj (b : Fin 2) (t : Fin 8192) (j : Fin 5664) : EReal := ∑ k : Fin 1024, normRow x nw b t k * w (ix3 (0 : Fin 1) k j)

/-- The values: head `h` reads 256 columns of the projection, from column `1024 + 256 h` on. -/
def values : Vec Ideal ⟨3, ![4, 16384, 256]⟩ .bf16 := fun i =>
  proj x nw w (seqOf (i 1)) (tokOf (i 1)) (⟨1024 + 256 * (i 0).val + (i 2).val, by
    have h0 : (i 0).val < 4 := (i 0).isLt
    have h2 : (i 2).val < 256 := (i 2).isLt
    omega⟩ : Fin 5664)

/-- The transformed channels: the 128 projected channels of a group, from column `3104` on, times the table of cosines and
    the table of sines. -/
def channels (cos sin : Arr 2 ![128, 128]) : Vec Ideal ⟨4, ![2, 2, 8192, 512]⟩ .bf16 := fun i =>
  ∑ k : Fin 128, proj x nw w (i 1) (i 2) (⟨3104 + 128 * ((i 3).val / 128) + k.val, by
      have h3 : (i 3).val < 512 := (i 3).isLt
      omega⟩ : Fin 5664)
    * (if (i 0).val = 0 then cos else sin) (ix2 k (⟨(i 3).val % 128, Nat.mod_lt _ (by decide)⟩ : Fin 128))

end Spec

/-- A sum over 256 places that vanishes outside the 128 places from 32 on. -/
theorem sum_mid (f : Fin 256 → EReal) (h0 : ∀ k : Fin 256, k.val < 32 ∨ 160 ≤ k.val → f k = 0) :
    ∑ k, f k = ∑ k : Fin 128, f (⟨32 + k.val, by omega⟩ : Fin 256) := by
  symm
  refine Finset.sum_of_injOn (fun k : Fin 128 => (⟨32 + k.val, by omega⟩ : Fin 256)) ?_ ?_ ?_ fun _ _ => rfl
  · intro a _ b _ hab
    have := congrArg Fin.val hab
    exact Fin.ext (by dsimp only at this; omega)
  · intro a _
    exact Finset.mem_coe.mpr (Finset.mem_univ _)
  · intro k _ hk
    refine h0 k ?_
    by_contra hc
    exact hk ⟨⟨k.val - 32, by omega⟩, Finset.mem_coe.mpr (Finset.mem_univ _), Fin.ext (by show 32 + (k.val - 32) = k.val; omega)⟩

end Cert.Mix

end
-- ==== Proof.MixValue.lean ====
/-
  The projections' kernel over its whole grid: the arrays of the values and of the transformed channels are the functions
  of the argument arrays `MixSpec.lean` states. The tables reach the kernel with rows of zeros above and below them, which
  add nothing to a sum.
-/
module

public import proofs.«01_k».proof.Proof.MixStep
public import proofs.«01_k».proof.Proof.MixSpec
public import Idealize.ShloMosaic.Lib.StableHlo.ReadAt
public import Idealize.ShloMosaic.Lib.KernelVsHost

@[expose] public section

noncomputable section

namespace Cert.Mix

open Cert.Kernel3Ideal Cert.Kernel3Ideal.Gen Cert.Tail Idealize.ShloMosaic Idealize.ShloMosaic.TcCoe Idealize.SL.Sem

variable (m : (ℓ : Loc nD τ sig) → Buf (Elt Ideal) ℓ) (c : Dev nD)

/-! ## The arrays the host hands the kernel, index by index -/

/-- The residual stream's rows. -/
theorem x_at (r : Fin 16384) (k : Fin 1024) :
    V m c main_v16 (ix2 r k) = m ((c : Thread nD τ).loc main_arg0) (ix3 (seqOf r) (tokOf r) k) := by
  unfold V; after_reads_at; rfl

/-- The scale of the normalisation. -/
theorem nw_at (j : Fin 1024) : V m c main_v18 (ix2 (0 : Fin 1) j) = m ((c : Thread nD τ).loc main_arg1) (ix2 (0 : Fin 1) j) := by
  unfold V; after_reads_at

/-- The columns of the input projection. -/
theorem w_at (k : Fin 1024) (j : Fin 4096) :
    V m c main_v2 (ix2 k j) = m ((c : Thread nD τ).loc main_arg2) (ix3 (0 : Fin 1) k (⟨j.val, by omega⟩ : Fin 5664)) := by
  unfold V; after_reads_at

/-- The two tables side by side, with rows of zeros above and below. -/
def tables (cos sin : Arr 2 ![128, 128]) (k j : Fin 256) : EReal :=
  if h : 32 ≤ k.val ∧ k.val < 160 then
    (if j.val / 128 = 0 then cos else sin) (ix2 (⟨k.val - 32, by omega⟩ : Fin 128) (⟨j.val % 128, Nat.mod_lt _ (by decide)⟩ : Fin 128))
  else 0

theorem tables_at (k j : Fin 256) :
    V m c main_v4 (ix2 k j) = tables (m ((c : Thread nD τ).loc main_arg7)) (m ((c : Thread nD τ).loc main_arg8)) k j := by
  have e : V m c main_v4 = pad S256x256 ![32, 0] ![96, 0] ![0, 0]
      (concatenate S128x256 1 [⟨S128x128, (m ((c : Thread nD τ).loc main_arg7) : S128x128.Idx → Ideal .f32)⟩,
        ⟨S128x128, (m ((c : Thread nD τ).loc main_arg8) : S128x128.Idx → Ideal .f32)⟩] concatenates_S128x128_S128x128_S128x256_d1)
      (sitofp .f32 (constantI S_ 32 0#32) : S_.Idx → Ideal .f32) pads_S128x256_S256x256_32960_000 h_S_ := by
    unfold V; after_reads_simp; rfl
  rw [e]
  unfold tables
  split
  next h =>
    rw [pad_apply_of_inside _ _ _ _ _ _ _ _ (ix2 (⟨k.val - 32, by omega⟩ : Fin 128) j) (fun a => by
      match a with
      | ⟨0, _⟩ => show k.val = 32 + (k.val - 32) * (0 + 1); omega
      | ⟨1, _⟩ => show j.val = 0 + j.val * (0 + 1); omega)]
    split
    next hj =>
      exact concatenate_pair_apply_left (t := S128x256) (1 : Fin 2) (m ((c : Thread nD τ).loc main_arg7) : S128x128.Idx → Ideal .f32)
        (m ((c : Thread nD τ).loc main_arg8) : S128x128.Idx → Ideal .f32) concatenates_S128x128_S128x128_S128x256_d1
        (ix2 (⟨k.val - 32, by omega⟩ : Fin 128) j) rfl (ix2 (⟨k.val - 32, by omega⟩ : Fin 128) (⟨j.val % 128, Nat.mod_lt _ (by decide)⟩ : Fin 128)) <| fun b => by
        match b with
        | ⟨0, _⟩ => rfl
        | ⟨1, _⟩ => show j.val % 128 = j.val; omega
    next hj =>
      exact concatenate_pair_apply_right (t := S128x256) (1 : Fin 2) (m ((c : Thread nD τ).loc main_arg7) : S128x128.Idx → Ideal .f32)
        (m ((c : Thread nD τ).loc main_arg8) : S128x128.Idx → Ideal .f32) concatenates_S128x128_S128x128_S128x256_d1
        (ix2 (⟨k.val - 32, by omega⟩ : Fin 128) j) rfl rfl (ix2 (⟨k.val - 32, by omega⟩ : Fin 128) (⟨j.val % 128, Nat.mod_lt _ (by decide)⟩ : Fin 128)) (fun b hb => by
        match b with
        | ⟨0, _⟩ => rfl
        | ⟨1, _⟩ => exact absurd rfl hb) (by show j.val % 128 + 128 = j.val; omega)
  next h =>
    rw [pad_apply_of_not_inside _ _ _ _ _ _ _ _ 0 (by
      intro hin
      have h1 : 32 ≤ k.val := hin.1
      have h2 : (k.val - 32) / (0 + 1) < 128 := hin.2.2
      exact h ⟨h1, by omega⟩)]
    show ((((0#32 : BitVec 32).toInt : ℤ) : ℝ) : EReal) = 0
    norm_num

/-! ## The blocks of a grid point -/

theorem block_index : ∀ t : Fin cfg0.N,
    (win0_0.index t = ![t.val, 0] ∧ win0_13.index t = ![0, t.val, 0] ∧ win0_18.index t = ![0, t.val / 8, t.val % 8, 0])
    ∧ win0_1.index t = ![0, 0] ∧ win0_2.index t = ![0, 0] ∧ win0_3.index t = ![0, 3] ∧ win0_8.index t = ![0, 0] :=
  (by decide +kernel : ∀ t : Fin grid0.N,
    (win0_0.index t = ![t.val, 0] ∧ win0_13.index t = ![0, t.val, 0] ∧ win0_18.index t = ![0, t.val / 8, t.val % 8, 0])
    ∧ win0_1.index t = ![0, 0] ∧ win0_2.index t = ![0, 0] ∧ win0_3.index t = ![0, 3] ∧ win0_8.index t = ![0, 0])

theorem blk0 (t : Fin cfg0.N) (R : Fin 1024) (k : Fin 1024) (r : Fin 16384) (hr : r.val = 1024 * t.val + R.val) :
    iblk m c 0 t (ix2 R k) = m ((c : Thread nD τ).loc main_arg0) (ix3 (seqOf r) (tokOf r) k) := by
  have e := (block_index t).1.1
  refine Eq.trans ?_ (x_at m c r k)
  blk_simp [iblk]
  refine congrArg (V m c main_v16) ?_
  blk_ext [e]

theorem blk1 (t : Fin cfg0.N) (j : Fin 1024) : iblk m c 1 t (ix2 (0 : Fin 1) j) = m ((c : Thread nD τ).loc main_arg1) (ix2 (0 : Fin 1) j) := by
  have e := (block_index t).2.1
  refine Eq.trans ?_ (nw_at m c j)
  blk_simp [iblk]
  refine congrArg (V m c main_v18) ?_
  blk_ext [e]

theorem blk2 (t : Fin cfg0.N) (k : Fin 1024) (j : Fin 2048) :
    iblk m c 2 t (ix2 k j) = m ((c : Thread nD τ).loc main_arg2) (ix3 (0 : Fin 1) k (⟨j.val, by omega⟩ : Fin 5664)) := by
  have e := (block_index t).2.2.1
  refine Eq.trans ?_ (w_at m c k ⟨j.val, by omega⟩)
  blk_simp [iblk]
  refine congrArg (V m c main_v2) ?_
  blk_ext [e]

theorem blk3 (t : Fin cfg0.N) (k : Fin 1024) (j : Fin 1024) :
    iblk m c 3 t (ix2 k j) = m ((c : Thread nD τ).loc main_arg2) (ix3 (0 : Fin 1) k (⟨3072 + j.val, by omega⟩ : Fin 5664)) := by
  have e := (block_index t).2.2.2.1
  refine Eq.trans ?_ (w_at m c k ⟨3072 + j.val, by omega⟩)
  blk_simp [iblk]
  refine congrArg (V m c main_v2) ?_
  blk_ext [e]

theorem blk8 (t : Fin cfg0.N) (k j : Fin 256) :
    iblk m c 8 t (ix2 k j) = tables (m ((c : Thread nD τ).loc main_arg7)) (m ((c : Thread nD τ).loc main_arg8)) k j := by
  have e := (block_index t).2.2.2.2
  refine Eq.trans ?_ (tables_at m c k j)
  blk_simp [iblk]
  refine congrArg (V m c main_v4) ?_
  blk_ext [e]

/-- A normalised row of a point's block is that of the same token. -/
theorem rowN_eq (t : Fin cfg0.N) (p : Fin 1024) (r : Fin 16384) (hr : r.val = 1024 * t.val + p.val) :
    rowN (iblk m c 0 t) (iblk m c 1 t) p
      = normRow (m ((c : Thread nD τ).loc main_arg0)) (m ((c : Thread nD τ).loc main_arg1)) (seqOf r) (tokOf r) := by
  unfold rowN normRow
  show Row.rms Row.len1024 (fun k => iblk m c 0 t (ix2 p k)) (fun k => iblk m c 1 t (ix2 (0 : Fin 1) k)) = _
  rw [show (fun k => iblk m c 0 t (ix2 p k)) = _ from funext fun k => blk0 m c t p k r hr,
    show (fun k => iblk m c 1 t (ix2 (0 : Fin 1) k)) = _ from funext fun k => blk1 m c t k]

/-! ## The results -/

/-- The array of the values. -/
theorem final_values : (dats m 0 c).arrAt 13 cfg0.N
    = values (m ((c : Thread nD τ).loc main_arg0)) (m ((c : Thread nD τ).loc main_arg1)) (m ((c : Thread nD τ).loc main_arg2)) := by
  refine (dats m 0 c).arrAt_eq_of_covers 13 _ (by decide +kernel) fun t _ y => ?_
  have ht : t.val < 16 := t.isLt
  have e := (block_index t).1.2.1
  blk_simp
  rw [after0_13]
  unfold outsAt0
  dsimp only
  obtain ⟨h, p, j, rfl⟩ : ∃ (h : Fin 4) (p : Fin 1024) (j : Fin 256), y = ix3 h p j := ⟨y 0, y 1, y 2, eq_ix3 y⟩
  have he : (win0_13.blk t).view.emb (ix3 h p j) = ix3 h (⟨1024 * t.val + p.val, by omega⟩ : Fin 16384) j := by blk_ext [e]
  rw [he]
  refine (out_vals _ _ _ _ _ _ _ _ _ _ _ _ _ _ _ _ _ _ _ _ _ _ _ _ _ _ _ _ _ _ _ _ _ _ _ _ _ _ _ _ _ _ _ _ _ _ _ _ _ _ _ _ _ h p j).trans ?_
  unfold valAt
  rw [rowN_eq m c t p ⟨1024 * t.val + p.val, by omega⟩ rfl]
  unfold values proj
  refine Finset.sum_congr rfl fun k _ => ?_
  exact congrArg (fun y : EReal => normRow (m ((c : Thread nD τ).loc main_arg0)) (m ((c : Thread nD τ).loc main_arg1))
    (seqOf (⟨1024 * t.val + p.val, by omega⟩ : Fin 16384)) (tokOf (⟨1024 * t.val + p.val, by omega⟩ : Fin 16384)) k * y)
    (blk2 m c t k (⟨1024 + 256 * h.val + j.val, by omega⟩ : Fin 2048))

/-- The array of the transformed channels. -/
theorem final_channels : (dats m 0 c).arrAt 18 cfg0.N
    = channels (m ((c : Thread nD τ).loc main_arg0)) (m ((c : Thread nD τ).loc main_arg1)) (m ((c : Thread nD τ).loc main_arg2))
      (m ((c : Thread nD τ).loc main_arg7)) (m ((c : Thread nD τ).loc main_arg8)) := by
  refine (dats m 0 c).arrAt_eq_of_covers 18 _ (by decide +kernel) fun t _ y => ?_
  have ht : t.val < 16 := t.isLt
  have e := (block_index t).1.2.2
  blk_simp
  rw [after0_18]
  unfold outsAt0
  dsimp only
  obtain ⟨s, z, p, J, rfl⟩ : ∃ (s : Fin 2) (z : Fin 1) (p : Fin 1024) (J : Fin 512), y = ix4 s z p J := ⟨y 0, y 1, y 2, y 3, eq_ix4 y⟩
  obtain rfl : z = 0 := Subsingleton.elim _ _
  have he : (win0_18.blk t).view.emb (ix4 s (0 : Fin 1) p J)
      = ix4 s (⟨t.val / 8, by omega⟩ : Fin 2) (⟨1024 * (t.val % 8) + p.val, by omega⟩ : Fin 8192) J := by blk_ext [e]
  rw [he]
  refine (out_chans _ _ _ _ _ _ _ _ _ _ _ _ _ _ _ _ _ _ _ _ _ _ _ _ _ _ _ _ _ _ _ _ _ _ _ _ _ _ _ _ _ _ _ _ _ _ _ _ _ _ _ _ _ s p J).trans ?_
  unfold chanAt
  rw [rowN_eq m c t p ⟨1024 * t.val + p.val, by omega⟩ rfl,
    show seqOf ⟨1024 * t.val + p.val, by omega⟩ = (⟨t.val / 8, by omega⟩ : Fin 2) from Fin.ext (by show (1024 * t.val + p.val) / 8192 = t.val / 8; omega),
    show tokOf ⟨1024 * t.val + p.val, by omega⟩ = (⟨1024 * (t.val % 8) + p.val, by omega⟩ : Fin 8192) from
      Fin.ext (by show (1024 * t.val + p.val) % 8192 = 1024 * (t.val % 8) + p.val; omega)]
  have hz : ∀ k : Fin 256, k.val < 32 ∨ 160 ≤ k.val → iblk m c 8 t (ValueIdx.ix2 k (⟨128 * s.val + J.val % 128, by omega⟩ : Fin 256)) = (0 : EReal) := fun k hk => by
    refine (blk8 m c t k (⟨128 * s.val + J.val % 128, by omega⟩ : Fin 256)).trans ?_
    unfold tables
    exact dif_neg (by omega)
  rw [sum_mid _ fun k hk => (congrArg _ (hz k hk)).trans (mul_zero _)]
  unfold channels proj
  refine Finset.sum_congr rfl fun k _ => congrArg₂ (· * ·) (Finset.sum_congr rfl fun l _ => ?_) ?_
  · refine congrArg (fun y : EReal => normRow (m ((c : Thread nD τ).loc main_arg0)) (m ((c : Thread nD τ).loc main_arg1))
      (⟨t.val / 8, by omega⟩ : Fin 2) (⟨1024 * (t.val % 8) + p.val, by omega⟩ : Fin 8192) l * y)
      ((blk3 m c t l (⟨128 * (J.val / 128) + (32 + k.val), by omega⟩ : Fin 1024)).trans ?_)
    exact congrArg (fun j => m ((c : Thread nD τ).loc main_arg2) (ix3 (0 : Fin 1) l j))
      (Fin.ext (by show 3072 + (128 * (J.val / 128) + (32 + k.val)) = 3104 + 128 * (J.val / 128) + k.val; omega))
  · refine (blk8 m c t (⟨32 + k.val, by omega⟩ : Fin 256) (⟨128 * s.val + J.val % 128, by omega⟩ : Fin 256)).trans ?_
    unfold tables
    rw [dif_pos ⟨by show 32 ≤ 32 + k.val; omega, by show 32 + k.val < 160; omega⟩]
    have hs : (128 * s.val + J.val % 128) / 128 = s.val := by omega
    have e1 : (⟨32 + k.val - 32, by omega⟩ : Fin 128) = k := Fin.ext (by show 32 + k.val - 32 = k.val; omega)
    have e2 : (⟨(128 * s.val + J.val % 128) % 128, Nat.mod_lt _ (by decide)⟩ : Fin 128) = ⟨J.val % 128, Nat.mod_lt _ (by decide)⟩ :=
      Fin.ext (by show (128 * s.val + J.val % 128) % 128 = J.val % 128; omega)
    show (if (128 * s.val + J.val % 128) / 128 = 0 then m ((c : Thread nD τ).loc main_arg7) else m ((c : Thread nD τ).loc main_arg8))
      (ix2 (⟨32 + k.val - 32, by omega⟩ : Fin 128) (⟨(128 * s.val + J.val % 128) % 128, Nat.mod_lt _ (by decide)⟩ : Fin 128)) = _
    rw [e1, e2, hs]
    rfl

end Cert.Mix

end
-- ==== Proof.MixRef.lean ====
/-
  The projections' reference, read at an index: its results are the functions of the argument arrays `MixSpec.lean`
  states. Each stage of the reference's program is read at token `t` of sequence `b` from the stages before it.
-/
module

public import proofs.«01_k».proof.Proof.MixSpec
public import proofs.«01_k».proof.Proof.TailRef
public import proofs.«01_k».proof.Proof.Gen.Reference3Ideal.Read
public import Idealize.ShloMosaic.Lib.Pipeline.Value

@[expose] public section

noncomputable section

namespace Cert.Mix

open Cert.Reference3Ideal Cert.Reference3Ideal.Gen Cert.Reference3Ideal.Read Cert.Tail Idealize.ShloMosaic Idealize.ShloMosaic.TcCoe Idealize.SL.Sem

section Stages

variable (x0 : (⟨S2x8192x1024, .f32⟩ : BufTy).Contents (Elt Ideal)) (x1 : (⟨S1x1024, .f32⟩ : BufTy).Contents (Elt Ideal))
  (x2 : (⟨S1x1024x5664, .f32⟩ : BufTy).Contents (Elt Ideal))
  (x7 x8 : (⟨S128x128, .f32⟩ : BufTy).Contents (Elt Ideal))
  (b : Fin 2) (t : Fin 8192)

/-! ## The projection -/

/-- The matrix of the projection. -/
theorem mat_at (k : Fin 1024) (j : Fin 5664) : val_main_v14 (F := Ideal) x2 (ix2 k j) = x2 (ix3 (0 : Fin 1) k j) := by
  rw [val_main_v14_apply]
  refine congrArg x2 (to3 _ _ _ _ rfl ?_ ?_)
  · show (k.val * 5664 + j.val) / 5664 % 1024 = k.val; omega
  · show (k.val * 5664 + j.val) % 5664 = j.val; omega

/-- The inverse root of a row's mean square. -/
theorem factor_at (k : Fin 1024) : val_main_v9 (F := Ideal) x0 (ix3 b t k)
    = Ideal.rsqrt (Ideal.div (∑ k : Fin 1024, x0 (ix3 b t k) * x0 (ix3 b t k)) Row.len1024 + Row.eps) := by
  rw [val_main_v9_apply, val_main_v8_apply, val_main_v7_apply, val_main_v5_apply, val_main_v3_apply, val_main_v2_apply]
  have e : ∀ j : Fin 1024, idx_main_v2 (idx_main_v3 (idx_main_v9 (ix3 b t k))) j = ix3 b t j := fun j => to3 _ _ _ _ rfl rfl rfl
  simp only [val_main_v1_apply, e, val_main_v4_apply, val_main_v6_apply, val_main_cst_apply, val_main_cst_0_apply, val_main_cst_1_apply]
  rw [zero_word, zero_add]
  rfl

/-- The normalised row. -/
theorem norm_at (j : Fin 1024) : val_main_v13 (F := Ideal) x0 x1 (ix3 b t j) = normRow x0 x1 b t j := by
  rw [val_main_v13_apply, val_main_v10_apply, factor_at, val_main_v12_apply, val_main_v11_apply, val_main_v0_apply]
  rw [to2 (idx_main_v0 (idx_main_v11 (idx_main_v12 (ix3 b t j)))) (0 : Fin 1) j rfl (by show j.val % 1024 = j.val; omega)]
  rfl

/-- A column of its projection. -/
theorem proj_at (j : Fin 5664) : val_main_v15 (F := Ideal) x0 x1 x2 (ix3 b t j) = proj x0 x1 x2 b t j := by
  rw [val_main_v15_apply]
  refine Finset.sum_congr rfl fun k _ => ?_
  rw [to3 (lidx_main_v15 (ix3 b t j) k) b t k rfl rfl rfl, to2 (ridx_main_v15 (ix3 b t j) k) k j rfl rfl, norm_at, mat_at]

/-! ## The values -/

/-- The reference's values are the columns of the projection, head by head. -/
theorem ref_values : val_main_v28 (F := Ideal) x0 x1 x2 = values x0 x1 x2 := by
  funext i
  obtain ⟨h, r, e, rfl⟩ : ∃ (h : Fin 4) (r : Fin 16384) (e : Fin 256), i = ix3 h r e := ⟨i 0, i 1, i 2, eq_ix3 i⟩
  rw [val_main_v28_apply, val_main_v18_apply, val_main_v17_apply, val_main_v16_apply,
    to3 (idx_main_v16 (idx_main_v17 (idx_main_v18 (ix3 h r e)))) (seqOf r) (tokOf r)
      (⟨1024 + 256 * h.val + e.val, by omega⟩ : Fin 5664) ?_ ?_ ?_, proj_at]
  · rfl
  · show ((r.val * 4 + h.val) * 256 + e.val) / 8388608 = r.val / 8192; omega
  · show ((r.val * 4 + h.val) * 256 + e.val) / 1024 % 8192 = r.val % 8192; omega
  · show 1024 + ((r.val * 4 + h.val) * 256 + e.val) % 1024 = 1024 + 256 * h.val + e.val; omega

/-! ## The transformed channels -/

/-- Channel `k` of group `g`. -/
theorem group_at (g : Fin 4) (k : Fin 128) : val_main_v20 (F := Ideal) x0 x1 x2 (ix4 b t g k)
    = proj x0 x1 x2 b t (⟨3104 + 128 * g.val + k.val, by omega⟩ : Fin 5664) := by
  rw [val_main_v20_apply, val_main_v19_apply,
    to3 (idx_main_v19 (idx_main_v20 (ix4 b t g k))) b t (⟨3104 + 128 * g.val + k.val, by omega⟩ : Fin 5664) ?_ ?_ ?_, proj_at]
  · show (((b.val * 8192 + t.val) * 4 + g.val) * 128 + k.val) / 4194304 = b.val; omega
  · show (((b.val * 8192 + t.val) * 4 + g.val) * 128 + k.val) / 512 % 8192 = t.val; omega
  · show 3104 + (((b.val * 8192 + t.val) * 4 + g.val) * 128 + k.val) % 512 = 3104 + 128 * g.val + k.val; omega

/-- A group's channels times the table of cosines. -/
theorem cos_at (J : Fin 512) : val_main_v22 (F := Ideal) x0 x1 x2 x7 (ix3 b t J)
    = ∑ k : Fin 128, proj x0 x1 x2 b t (⟨3104 + 128 * (J.val / 128) + k.val, by omega⟩ : Fin 5664) * x7 (ix2 k (⟨J.val % 128, Nat.mod_lt _ (by decide)⟩ : Fin 128)) := by
  rw [val_main_v22_apply, val_main_v21_apply]
  refine Finset.sum_congr rfl fun k _ => ?_
  rw [to4 (lidx_main_v21 (idx_main_v22 (ix3 b t J)) k) b t (⟨J.val / 128, by omega⟩ : Fin 4) k
      (by show ((b.val * 8192 + t.val) * 512 + J.val) / 4194304 = b.val; omega)
      (by show ((b.val * 8192 + t.val) * 512 + J.val) / 512 % 8192 = t.val; omega)
      (by show ((b.val * 8192 + t.val) * 512 + J.val) / 128 % 4 = J.val / 128; omega) rfl,
    to2 (ridx_main_v21 (idx_main_v22 (ix3 b t J)) k) k (⟨J.val % 128, Nat.mod_lt _ (by decide)⟩ : Fin 128) rfl
      (by show ((b.val * 8192 + t.val) * 512 + J.val) % 128 = J.val % 128; omega), group_at]

/-- A group's channels times the table of sines. -/
theorem sin_at (J : Fin 512) : val_main_v24 (F := Ideal) x0 x1 x2 x8 (ix3 b t J)
    = ∑ k : Fin 128, proj x0 x1 x2 b t (⟨3104 + 128 * (J.val / 128) + k.val, by omega⟩ : Fin 5664) * x8 (ix2 k (⟨J.val % 128, Nat.mod_lt _ (by decide)⟩ : Fin 128)) := by
  rw [val_main_v24_apply, val_main_v23_apply]
  refine Finset.sum_congr rfl fun k _ => ?_
  rw [to4 (lidx_main_v23 (idx_main_v24 (ix3 b t J)) k) b t (⟨J.val / 128, by omega⟩ : Fin 4) k
      (by show ((b.val * 8192 + t.val) * 512 + J.val) / 4194304 = b.val; omega)
      (by show ((b.val * 8192 + t.val) * 512 + J.val) / 512 % 8192 = t.val; omega)
      (by show ((b.val * 8192 + t.val) * 512 + J.val) / 128 % 4 = J.val / 128; omega) rfl,
    to2 (ridx_main_v23 (idx_main_v24 (ix3 b t J)) k) k (⟨J.val % 128, Nat.mod_lt _ (by decide)⟩ : Fin 128) rfl
      (by show ((b.val * 8192 + t.val) * 512 + J.val) % 128 = J.val % 128; omega), group_at]

/-- The reference's transformed channels: the two products, one after the other. -/
theorem ref_channels : val_main_v29 (F := Ideal) x0 x1 x2 x7 x8 = channels x0 x1 x2 x7 x8 := by
  funext i
  obtain ⟨s, b, t, J, rfl⟩ : ∃ (s b : Fin 2) (t : Fin 8192) (J : Fin 512), i = ix4 s b t J := ⟨i 0, i 1, i 2, i 3, eq_ix4 i⟩
  rw [val_main_v29_apply]
  show val_main_v27 (F := Ideal) x0 x1 x2 x7 x8 (ix4 s b t J) = _
  unfold val_main_v27
  obtain rfl | rfl : s = 0 ∨ s = 1 := by omega
  · refine (concatenate_pair_apply_left (t := S2x2x8192x512) (0 : Fin 4) (val_main_v25 (F := Ideal) x0 x1 x2 x7)
      (val_main_v26 (F := Ideal) x0 x1 x2 x8) concatenates_S1x2x8192x512_S1x2x8192x512_S2x2x8192x512_d0 (ix4 (0 : Fin 2) b t J) rfl (ix4 (0 : Fin 1) b t J) fun d => by
      match d with
      | ⟨0, _⟩ => rfl
      | ⟨1, _⟩ => rfl
      | ⟨2, _⟩ => rfl
      | ⟨3, _⟩ => rfl).trans ?_
    rw [val_main_v25_apply, to3 (idx_main_v25 (ix4 (0 : Fin 1) b t J)) b t J rfl rfl rfl, cos_at]
    rfl
  · refine (concatenate_pair_apply_right (t := S2x2x8192x512) (0 : Fin 4) (val_main_v25 (F := Ideal) x0 x1 x2 x7)
      (val_main_v26 (F := Ideal) x0 x1 x2 x8) concatenates_S1x2x8192x512_S1x2x8192x512_S2x2x8192x512_d0 (ix4 (1 : Fin 2) b t J) rfl rfl (ix4 (0 : Fin 1) b t J) (fun d hd => by
      match d with
      | ⟨0, _⟩ => exact absurd rfl hd
      | ⟨1, _⟩ => rfl
      | ⟨2, _⟩ => rfl
      | ⟨3, _⟩ => rfl) rfl).trans ?_
    rw [val_main_v26_apply, to3 (idx_main_v26 (ix4 (0 : Fin 1) b t J)) b t J rfl rfl rfl, sin_at]
    rfl

end Stages

end Cert.Mix

end
-- ==== Proof.lean ====
/-
  The certificate: the frames, the two `preserves` claims and the value claims, each put together from the generated runs and
  the modules that give the values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.TailValue
public import proofs.«01_k».proof.Proof.TailRef
public import proofs.«01_k».proof.Proof.ScanValue
public import proofs.«01_k».proof.Proof.ScanRef
public import proofs.«01_k».proof.Proof.MixValue
public import proofs.«01_k».proof.Proof.MixRef
public import Idealize.ShloMosaic.Adequacy
public import Idealize.ShloMosaic.Init

@[expose] public section

noncomputable section

namespace Cert.Proof

open Idealize.ShloMosaic Idealize.ShloMosaic.StableHlo Idealize.ShloMosaic.TcCoe Idealize.SL.Sem

/-! ## The frames -/

theorem frame_k : Cert.quiescent_Kernel := fun m ρ _ => Cert.Kernel.Gen.frame m ρ
theorem frame_ki : Cert.quiescent_KernelIdeal := fun m ρ _ => Cert.KernelIdeal.Gen.frame m ρ
theorem frame_k2 : Cert.quiescent_Kernel2 := fun m ρ _ => Cert.Kernel2.Gen.frame m ρ
theorem frame_k2i : Cert.quiescent_Kernel2Ideal := fun m ρ _ => Cert.Kernel2Ideal.Gen.frame m ρ
theorem frame_k3 : Cert.quiescent_Kernel3 := fun m ρ _ => Cert.Kernel3.Gen.frame m ρ
theorem frame_k3i : Cert.quiescent_Kernel3Ideal := fun m ρ _ => Cert.Kernel3Ideal.Gen.frame m ρ

/-- The scan's reference: its run read at the arguments; it declares no semaphore. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The tail's reference: its run read at the arguments; it declares no semaphore. -/
theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The projections' reference: its run read at the arguments; it declares no semaphore. -/
theorem frame_r3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-! ## The tail's value -/

/-- The kernel's and the reference's result arrays are the same function, `Cert.Tail.result`, of arguments that agree. -/
theorem algebraic_tail : Cert.algebraic_Kernel2Ideal_Reference2Ideal := by
  intro m ρ m' ρ' _ hagree
  refine ⟨fun c => _, (θ_run Cert.Kernel2Ideal.defs _ _).mono (fun r h c => ⟨(h c).1, (h c).2⟩)
    (Cert.Kernel2Ideal.Value.run_blocks (F := Ideal) m ρ), ?_⟩
  refine (θ_run Cert.Reference2Ideal.defs _ _).mono (fun r h c => ⟨(h c).1.trans ?_, (h c).2⟩)
    (Cert.Reference2Ideal.Value.run (F := Ideal) m' ρ')
  refine Eq.trans ?_ (Cert.Tail.final m c).symm
  refine (Cert.Reference2Ideal.Read.val_main_v95_eq (launchContents m' c)).trans ?_
  obtain ⟨e0, e1, e2, e3, e4, e5, e6, e7, e8, e9, e10, e11, e12, e13, e14⟩ := hagree c
  rw [Cert.Tail.ref_result]
  simp only [launchContents_devRef, e0, e1, e2, e3, e4, e5, e6, e7, e8, e9, e10, e11, e12, e13, e14]

/-! ## The scan's values -/

/-- The kernel's and the reference's result arrays are the same functions, `Cert.Scan.resultF` and `Cert.Scan.resultB`, of
    arguments that agree. -/
theorem algebraic_scan : Cert.algebraic_KernelIdeal_ReferenceIdeal := by
  intro m ρ m' ρ' _ hagree
  refine ⟨fun c => _, fun c => _, (θ_run Cert.KernelIdeal.defs _ _).mono (fun r h c => ⟨(h c).1, (h c).2.1, (h c).2.2⟩)
    (Cert.KernelIdeal.Value.run_blocks (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  all_goals obtain ⟨e0, e1, e2, e3, e4, e5, e6, e7, e8⟩ := hagree c
  · refine (Cert.Scan.refF m' c).trans (Eq.trans ?_ (Cert.Scan.finalF m c).symm)
    rw [e0, e2, e4, e5, e7, e8]
  · refine (Cert.Scan.refB m' c).trans (Eq.trans ?_ (Cert.Scan.finalB m c).symm)
    rw [e1, e3, e4, e6]

/-! ## The projections' values -/

/-- The kernel's and the reference's result arrays are the same functions, `Cert.Mix.values` and `Cert.Mix.channels`, of
    arguments that agree. -/
theorem algebraic_mix : Cert.algebraic_Kernel3Ideal_Reference3Ideal := by
  intro m ρ m' ρ' _ hagree
  refine ⟨fun c => _, fun c => _, (θ_run Cert.Kernel3Ideal.defs _ _).mono (fun r h c => ⟨(h c).1, (h c).2.2.2.2.2.1, (h c).2.2.2.2.2.2⟩)
    (Cert.Kernel3Ideal.Value.run_blocks (F := Ideal) m ρ), ?_⟩
  refine (θ_run Cert.Reference3Ideal.defs _ _).mono (fun r h c => ⟨(h c).1.trans ?_, (h c).2.1.trans ?_, (h c).2.2⟩)
    (Cert.Reference3Ideal.Value.run (F := Ideal) m' ρ')
  all_goals obtain ⟨e0, e1, e2, -, -, -, -, e7, e8⟩ := hagree c
  · refine Eq.trans ?_ (Cert.Mix.final_values m c).symm
    refine (Cert.Reference3Ideal.Read.val_main_v28_eq _ _ _).trans ?_
    rw [Cert.Mix.ref_values, e0, e1, e2]
  · refine Eq.trans ?_ (Cert.Mix.final_channels m c).symm
    refine (Cert.Reference3Ideal.Read.val_main_v29_eq _ _ _ _ _).trans ?_
    rw [Cert.Mix.ref_channels, e0, e1, e2, e7, e8]

/-! ## The certificate -/

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  frame_k, frame_ki, frame_r, frame_k2, frame_k2i, frame_r2, frame_k3, frame_k3i, frame_r3, trivial, algebraic_scan, trivial, algebraic_tail, trivial, algebraic_mix⟩

end Cert.Proof

end
